-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "delta_over_k" .f32 0x3951ECD5#32 ((13421773 / 67041755136 : ℝ) : EReal)

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S1024x100000 : Shape := ⟨2, ![1024, 100000]⟩
abbrev S1024 : Shape := ⟨1, ![1024]⟩
abbrev S254 : Shape := ⟨1, ![254]⟩
abbrev S_ : Shape := ⟨0, ![]⟩
abbrev S1024x100000x1 : Shape := ⟨3, ![1024, 100000, 1]⟩
abbrev S1x1x254 : Shape := ⟨3, ![1, 1, 254]⟩
abbrev S1024x100000x254 : Shape := ⟨3, ![1024, 100000, 254]⟩

class Facts : Prop where
  bcast_S_S254 : S_.BroadcastsInDim S254 (![] : Fin 0 → Fin S254.rank)
  bcast_S1024x100000_S1024x100000x1_0_1 : S1024x100000.BroadcastsInDim S1024x100000x1 (![0, 1] : Fin 2 → Fin S1024x100000x1.rank)
  bcast_S254_S1x1x254_2 : S254.BroadcastsInDim S1x1x254 (![2] : Fin 1 → Fin S1x1x254.rank)
  bcast_S1024x100000x1_S1024x100000x254_0_1_2 : S1024x100000x1.BroadcastsInDim S1024x100000x254 (![0, 1, 2] : Fin 3 → Fin S1024x100000x254.rank)
  bcast_S1x1x254_S1024x100000x254_0_1_2 : S1x1x254.BroadcastsInDim S1024x100000x254 (![0, 1, 2] : Fin 3 → Fin S1024x100000x254.rank)
  bcast_S_S1024x100000x254 : S_.BroadcastsInDim S1024x100000x254 (![] : Fin 0 → Fin S1024x100000x254.rank)
  reducesTo_S1024x100000x254_S1024x100000_d2 : S1024x100000x254.ReducesTo [2] S1024x100000
  h_S_ : 0 < S_.numel
  bcast_S_S1024x100000 : S_.BroadcastsInDim S1024x100000 (![] : Fin 0 → Fin S1024x100000.rank)
  bcast_S_S1024 : S_.BroadcastsInDim S1024 (![] : Fin 0 → Fin S1024.rank)

variable [Facts]

def fn_part1 {F : FTy → Type} [FloatOps F] (main_arg0 : FVec F S1024x100000 .f32) (main_arg1 : IVec S1024 32) (main_v18 : IVec S1024x100000x254 1) (main_c_2 : IVec S_ 1) : IVec S1024x100000 1 × IVec S1024x100000 1 × IVec S1024 1 :=
  let main_v19 : IVec S1024x100000 1 := (fun x v => Host.reduce IntOp.ori x v reducesTo_S1024x100000x254_S1024x100000_d2 h_S_) main_v18 main_c_2
  let main_cst_3 : FVec F S_ .f32 := constant S_ .f32 0xF149F2CA#32
  let main_v20 : FVec F S1024x100000 .f32 := broadcastInDim S1024x100000 ![] bcast_S_S1024x100000 main_cst_3
  let main_v21 : IVec S1024x100000 1 := cmpf .ogt main_arg0 main_v20
  let main_c_4 : IVec S_ 32 := constantI S_ 32 0#32
  let main_v22 : IVec S1024 32 := broadcastInDim S1024 ![] bcast_S_S1024 main_c_4
  let main_v23 : IVec S1024 1 := cmpi .sge main_arg1 main_v22
  let main_c_5 : IVec S_ 32 := constantI S_ 32 100000#32
  let main_v24 : IVec S1024 32 := broadcastInDim S1024 ![] bcast_S_S1024 main_c_5
  let main_v25 : IVec S1024 1 := cmpi .slt main_arg1 main_v24
  let main_v26 : IVec S1024 1 := andi main_v23 main_v25
  (main_v19, main_v21, main_v26)

def fn {F : FTy → Type} [FloatOps F] (main_arg0 : FVec F S1024x100000 .f32) (main_arg1 : IVec S1024 32) : IVec S1024x100000 1 × IVec S1024x100000 1 × IVec S1024 1 :=
  let main_v0 : IVec S254 32 := iotaInDim S254 32 0
  let main_c : IVec S_ 32 := constantI S_ 32 1#32
  let main_v1 : IVec S254 32 := broadcastInDim S254 ![] bcast_S_S254 main_c
  let main_v2 : IVec S254 32 := addi main_v0 main_v1
  let main_c_0 : IVec S_ 32 := constantI S_ 32 23#32
  let main_v3 : IVec S254 32 := broadcastInDim S254 ![] bcast_S_S254 main_c_0
  let main_v4 : IVec S254 32 := Host.shli main_v2 main_v3
  let main_v5 : FVec F S254 .f32 := bitcastToFloat .f32 main_v4
  let main_v6 : FVec F S1024x100000x1 .f32 := broadcastInDim S1024x100000x1 ![0, 1] bcast_S1024x100000_S1024x100000x1_0_1 main_arg0
  let main_v7 : FVec F S1x1x254 .f32 := broadcastInDim S1x1x254 ![2] bcast_S254_S1x1x254_2 main_v5
  let main_v8 : FVec F S1024x100000x254 .f32 := broadcastInDim S1024x100000x254 ![0, 1, 2] bcast_S1024x100000x1_S1024x100000x254_0_1_2 main_v6
  let main_v9 : FVec F S1024x100000x254 .f32 := broadcastInDim S1024x100000x254 ![0, 1, 2] bcast_S1x1x254_S1024x100000x254_0_1_2 main_v7
  let main_v10 : FVec F S1024x100000x254 .f32 := mulf main_v8 main_v9
  let main_cst : FVec F S_ .f32 := constant S_ .f32 0x4A800000#32
  let main_v11 : FVec F S1024x100000x254 .f32 := broadcastInDim S1024x100000x254 ![] bcast_S_S1024x100000x254 main_cst
  let main_v12 : FVec F S1024x100000x254 .f32 := mulf main_v10 main_v11
  let main_v13 : FVec F S1024x100000x254 .f32 := Host.floor main_v12
  let main_v14 : IVec S1024x100000x254 1 := cmpf .oeq main_v13 main_v12
  let main_v15 : FVec F S1024x100000x254 .f32 := Host.absf main_v12
  let main_cst_1 : FVec F S_ .f32 := constant S_ .f32 0x4B800000#32
  let main_v16 : FVec F S1024x100000x254 .f32 := broadcastInDim S1024x100000x254 ![] bcast_S_S1024x100000x254 main_cst_1
  let main_v17 : IVec S1024x100000x254 1 := cmpf .olt main_v15 main_v16
  let main_v18 : IVec S1024x100000x254 1 := andi main_v14 main_v17
  let main_c_2 : IVec S_ 1 := constantI S_ 1 0#1
  fn_part1 (F := F) main_arg0 main_arg1 main_v18 main_c_2
-- ==== Kernel.lean ====
abbrev S1024x100000 : Shape := ⟨2, ![1024, 100000]⟩
abbrev S1024 : Shape := ⟨1, ![1024]⟩
abbrev S1024x1 : Shape := ⟨2, ![1024, 1]⟩
abbrev S1x1 : Shape := ⟨2, ![1, 1]⟩
abbrev S32x1 : Shape := ⟨2, ![32, 1]⟩
abbrev S32x100000 : Shape := ⟨2, ![32, 100000]⟩
abbrev S32x1024 : Shape := ⟨2, ![32, 1024]⟩
abbrev S32x672 : Shape := ⟨2, ![32, 672]⟩
abbrev S32x128 : Shape := ⟨2, ![32, 128]⟩
abbrev S32 : Shape := ⟨1, ![32]⟩
abbrev S1x32x1 : Shape := ⟨3, ![1, 32, 1]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 5
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024x1, .i32⟩
  | .hbm, ⟨3, _⟩ => ⟨S1x1, .f32⟩
  | .hbm, ⟨4, _⟩ => ⟨S_, .f32⟩
  | .local _ .vmem, ⟨0, _⟩ => ⟨S32x1, .i32⟩
  | .local _ .vmem, ⟨1, _⟩ => ⟨S32x1, .i32⟩
  | .local _ .vmem, ⟨2, _⟩ => ⟨S32x100000, .f32⟩
  | .local _ .vmem, ⟨3, _⟩ => ⟨S32x100000, .f32⟩
  | .local _ .vmem, ⟨4, _⟩ => ⟨S1x1, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "delta_over_k" => some ((13421773 / 67041755136 : ℝ) : EReal)
  | _ => none
-- ==== ReferenceIdeal.lean ====
abbrev S1024x100000 : Shape := ⟨2, ![1024, 100000]⟩
abbrev S1024 : Shape := ⟨1, ![1024]⟩
abbrev S1024x1 : Shape := ⟨2, ![1024, 1]⟩
abbrev S_ : Shape := ⟨0, ![]⟩
abbrev S1024x1x1 : Shape := ⟨3, ![1024, 1, 1]⟩
abbrev S1 : Shape := ⟨1, ![1]⟩
abbrev S1x1x1 : Shape := ⟨3, ![1, 1, 1]⟩
abbrev S1024x2 : Shape := ⟨2, ![1024, 2]⟩
abbrev S1024x999 : Shape := ⟨2, ![1024, 999]⟩

abbrev nBuf : Space → Nat
  | .hbm => 70
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024x1, .i32⟩
  | .hbm, ⟨3, _⟩ => ⟨S_, .i32⟩
  | .hbm, ⟨4, _⟩ => ⟨S1024x1, .i32⟩
  | .hbm, ⟨5, _⟩ => ⟨S1024x1, .i1⟩
  | .hbm, ⟨6, _⟩ => ⟨S_, .i32⟩
  | .hbm, ⟨7, _⟩ => ⟨S1024x1, .i32⟩
  | .hbm, ⟨8, _⟩ => ⟨S1024x1, .i32⟩
  | .hbm, ⟨9, _⟩ => ⟨S1024x1, .i32⟩
  | .hbm, ⟨10, _⟩ => ⟨S1024x1x1, .i32⟩
  | .hbm, ⟨11, _⟩ => ⟨S1, .i32⟩
  | .hbm, ⟨12, _⟩ => ⟨S_, .i32⟩
  | .hbm, ⟨13, _⟩ => ⟨S1024x1x1, .i32⟩
  | .hbm, ⟨14, _⟩ => ⟨S1024x1x1, .i1⟩
  | .hbm, ⟨15, _⟩ => ⟨S1x1x1, .i32⟩
  | .hbm, ⟨16, _⟩ => ⟨S1024x1x1, .i32⟩
  | .hbm, ⟨17, _⟩ => ⟨S1024x1x1, .i1⟩
  | .hbm, ⟨18, _⟩ => ⟨S1024x1x1, .i1⟩
  | .hbm, ⟨19, _⟩ => ⟨S_, .i1⟩
  | .hbm, ⟨20, _⟩ => ⟨S1024x1, .i1⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S1024, .f32⟩
  | .hbm, ⟨26, _⟩ => ⟨S1024, .i32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S1024, .i32⟩
  | .hbm, ⟨41, _⟩ => ⟨S1024x1, .i32⟩
  | .hbm, ⟨42, _⟩ => ⟨S1024x1, .i32⟩
  | .hbm, ⟨43, _⟩ => ⟨S1024x2, .i32⟩
  | .hbm, ⟨44, _⟩ => ⟨S_, .f32⟩
  | .hbm, ⟨45, _⟩ => ⟨S1024, .f32⟩
  | .hbm, ⟨46, _⟩ => ⟨S1024x100000, .f32⟩
  | .hbm, ⟨47, _⟩ => ⟨S1024x999, .f32⟩
  | .hbm, ⟨48, _⟩ => ⟨S1024x999, .i32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S_, .f32⟩
  | .hbm, ⟨54, _⟩ => ⟨S1024x999, .f32⟩
  | .hbm, ⟨55, _⟩ => ⟨S1024x999, .f32⟩
  | .hbm, ⟨56, _⟩ => ⟨S1024x999, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1024, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c_1 : Ref sig .tc := ⟨.hbm, 34, rfl⟩
abbrev main_v9 : Ref sig .tc := ⟨.hbm, 35, rfl⟩
abbrev main_v10 : Ref sig .tc := ⟨.hbm, 36, rfl⟩
abbrev main_c_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst : Ref sig .tc := ⟨.hbm, 44, rfl⟩
abbrev main_v17 : Ref sig .tc := ⟨.hbm, 45, rfl⟩
abbrev main_v18 : Ref sig .tc := ⟨.hbm, 46, rfl⟩
abbrev main_values : Ref sig .tc := ⟨.hbm, 47, rfl⟩
abbrev main_indices : Ref sig .tc := ⟨.hbm, 48, rfl⟩
abbrev main_cst_3 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_cst_6 : Ref sig .tc := ⟨.hbm, 59, rfl⟩
abbrev main_v26 : Ref sig .tc := ⟨.hbm, 60, rfl⟩
abbrev main_v27 : Ref sig .tc := ⟨.hbm, 61, rfl⟩
abbrev main_cst_7 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_8 : Ref sig .tc := ⟨.hbm, 66, rfl⟩
abbrev main_v31 : Ref sig .tc := ⟨.hbm, 67, rfl⟩
abbrev main_cst_9 : Ref sig .tc := ⟨.hbm, 68, rfl⟩
abbrev main_v32 : Ref sig .tc := ⟨.hbm, 69, rfl⟩

abbrev nD : Nat := 1
abbrev τ : Topo := Topo.v7x

variable {F : FTy → Type} [FloatOps F]
-- ==== Proof.Runs.lean ====
/-
  The kernel's body as a run over buffers. A body of this kernel only loads from its first two operands, loads and stores
  its third, and calls the search loop's label. `Runs` says of a program of that kind what it returns and what it leaves in
  the third operand; `Runs.sound` turns such a statement into the program logic's once and for all, so that a piece of the
  body is treated by listing its loads.
-/
module

public import proofs.«01_k».proof.KernelIdeal
public import proofs.«01_k».proof.Proof.Gen.KernelIdeal
public import proofs.«01_k».proof.Proof.Gen.KernelIdeal.Skeleton
public import Idealize.ShloMosaic.Lib.Pipeline.Sound
public import Idealize.ShloMosaic.Lib.Tactic

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The ghost algebra: the rounds library's over the cells, duties named by `Unit`. -/
abbrev UR (nD : Nat) (τ : Topo) : Type := URounds (GSem nD τ sig) Unit

local notation "𝕄" => MT nD τ sig Unit (Elt F) ℕ (UR nD τ) ℕ

/-- The variants: the naturals, the search loop's trips still to run. -/
abbrev 𝒱₀ : Variants := Variants.nat

section

variable (c : Dev nD)
  (a1 : Memref sig .tc .vmem S32x1 .i32) (f1 : Buf (Elt F) (a1.view.loc (c : Thread nD τ)))
  (a2 : Memref sig .tc .vmem S32x100000 .f32) (f2 : Buf (Elt F) (a2.view.loc (c : Thread nD τ)))
  (a3 : Memref sig .tc .vmem S1x1 .f32)
  (W : Cc0While1 F → BitVec 32 × IVec S32x1 32 × IVec S32x1 32 → Prop)

/-- `Runs p g a g'`: with the first two operands at `f1` and `f2` and the third at `g`, the program `p` returns `a` and
    leaves the third at `g'`, a call of the loop's label on `A` returning some `res` with `W A res`. -/
inductive Runs : {α : Type} → Prog (TpuEff nD τ sig (Elt F) (Λ₀ F) .tc) α →
    Buf (Elt F) (a3.view.loc (c : Thread nD τ)) → α → Buf (Elt F) (a3.view.loc (c : Thread nD τ)) → Prop
  | ret {α : Type} (a : α) (g) : Runs (.ret a) g a g
  | load1 {α : Type} {r : LoadRect S32x1} {hl : a1.view.LoadsAt r} {k} {g : Buf (Elt F) (a3.view.loc (c : Thread nD τ))} {a : α} {g'} :
      Runs (k (a1.view.readAt (Elt F) r f1)) g a g' → Runs (.op (.load a1 r hl) k) g a g'
  | load2 {α : Type} {r : LoadRect S32x100000} {hl : a2.view.LoadsAt r} {k} {g : Buf (Elt F) (a3.view.loc (c : Thread nD τ))} {a : α} {g'} :
      Runs (k (a2.view.readAt (Elt F) r f2)) g a g' → Runs (.op (.load a2 r hl) k) g a g'
  | load3 {α : Type} {r : LoadRect S1x1} {hl : a3.view.LoadsAt r} {k} {g : Buf (Elt F) (a3.view.loc (c : Thread nD τ))} {a : α} {g'} :
      Runs (k (a3.view.readAt (Elt F) r g)) g a g' → Runs (.op (.load a3 r hl) k) g a g'
  | store3 {α : Type} {r : Rect S1x1} {w : r.shape.Idx → Elt F .f32} {hx : (a3.access r).Stores Finset.univ} {hm} {k}
      {g : Buf (Elt F) (a3.view.loc (c : Thread nD τ))} {a : α} {g'} :
      Runs (k ⟨⟩) ((a3.access r).write (Elt F) g w Finset.univ) a g' → Runs (.op (.store a3 r w Finset.univ hx hm) k) g a g'
  | call {α : Type} {A : Cc0While1 F} {res : BitVec 32 × IVec S32x1 32 × IVec S32x1 32} {k}
      {g : Buf (Elt F) (a3.view.loc (c : Thread nD τ))} {a : α} {g'} :
      W A res → Runs (k res) g a g' → Runs (.op (.call (1 : (Λ₀ F).Label) A) k) g a g'

variable {c a1 f1 a2 f2 a3 W}

/-- A run of `p` followed by a run of what continues it. -/
theorem Runs.bind {α β : Type} {p : Prog (TpuEff nD τ sig (Elt F) (Λ₀ F) .tc) α} {q : α → Prog (TpuEff nD τ sig (Elt F) (Λ₀ F) .tc) β}
    {g a g₁ b g₂} (hp : Runs c a1 f1 a2 f2 a3 W p g a g₁) (hq : Runs c a1 f1 a2 f2 a3 W (q a) g₁ b g₂) :
    Runs c a1 f1 a2 f2 a3 W (p >>= q) g b g₂ := by
  induction hp with
  | ret a g => exact hq
  | load1 _ ih => exact .load1 (ih hq)
  | load2 _ ih => exact .load2 (ih hq)
  | load3 _ ih => exact .load3 (ih hq)
  | store3 _ ih => exact .store3 (ih hq)
  | call hW _ ih => exact .call hW (ih hq)

variable (c a1 f1 a2 f2 a3)

/-- The three operands held whole, the third at `g`. -/
def held (g : Buf (Elt F) (a3.view.loc (c : Thread nD τ))) : sProp 𝕄 :=
  iprop((a1.view.loc (c : Thread nD τ) ↦{fullShare} f1) ∗ (a2.view.loc (c : Thread nD τ) ↦{fullShare} f2)
    ∗ (a3.view.loc (c : Thread nD τ) ↦{fullShare} g))

/-- What a call of the label on `A` returning `res` is answered by: the operands lent and given back. -/
def lend (g : Buf (Elt F) (a3.view.loc (c : Thread nD τ))) {α : Type} (res : α) : sWPT 𝕄 α := do
  sWPT.consume (held c a1 f1 a2 f2 a3 g)
  sWPT.produce (held c a1 f1 a2 f2 a3 g)
  pure res

theorem lend_apply (g : Buf (Elt F) (a3.view.loc (c : Thread nD τ))) {α : Type} (res : α) (K : α → sProp 𝕄) :
    lend c a1 f1 a2 f2 a3 g res K
      = iprop(held c a1 f1 a2 f2 a3 g ∗ (held c a1 f1 a2 f2 a3 g -∗ K res)) := rfl

/-- A run is what the program logic proves of the program, once every call it may make is answered below the bound. -/
theorem Runs.sound {bd : Option 𝒱₀.V} {E : Set ℕ}
    (hW : ∀ A res, W A res → ∃ v : 𝒱₀.V, (∀ u ∈ bd, 𝒱₀.lt v u) ∧ ∀ g, lend c a1 f1 a2 f2 a3 g res
      ≤ wp frame (wpE (defs₀ (F := F)) 𝒱₀ (c : Thread nD τ) (some v)) E (defs₀ (F := F) .tc 1 A))
    {α : Type} {p : Prog (TpuEff nD τ sig (Elt F) (Λ₀ F) .tc) α} {g a g'} (h : Runs c a1 f1 a2 f2 a3 W p g a g') :
    ∀ K : α → sProp 𝕄, iprop(held c a1 f1 a2 f2 a3 g ∗ (held c a1 f1 a2 f2 a3 g' -∗ K a))
      ⊢ wp frame (wpE (defs₀ (F := F)) 𝒱₀ (c : Thread nD τ) bd) E p K := by
  induction h with
  | ret a g =>
    intro K
    iintro ⟨H, Hk⟩
    rw [wp_ret]; imodintro
    iapply Hk; iexact H
  | load1 _ ih =>
    intro K
    unfold held
    iintro ⟨⟨H1, H2, H3⟩, Hk⟩
    iapply (wp_load 𝒱₀ (c : Thread nD τ) bd E (m := a1) (Finset.subset_univ _)) $$ H1; iintro H1
    iapply (ih K)
    isplitl [H1 H2 H3]
    · unfold held
      isplitl [H1]; · iexact H1
      isplitl [H2]; · iexact H2
      iexact H3
    iexact Hk
  | load2 _ ih =>
    intro K
    unfold held
    iintro ⟨⟨H1, H2, H3⟩, Hk⟩
    iapply (wp_load 𝒱₀ (c : Thread nD τ) bd E (m := a2) (Finset.subset_univ _)) $$ H2; iintro H2
    iapply (ih K)
    isplitl [H1 H2 H3]
    · unfold held
      isplitl [H1]; · iexact H1
      isplitl [H2]; · iexact H2
      iexact H3
    iexact Hk
  | load3 _ ih =>
    intro K
    unfold held
    iintro ⟨⟨H1, H2, H3⟩, Hk⟩
    iapply (wp_load 𝒱₀ (c : Thread nD τ) bd E (m := a3) (Finset.subset_univ _)) $$ H3; iintro H3
    iapply (ih K)
    isplitl [H1 H2 H3]
    · unfold held
      isplitl [H1]; · iexact H1
      isplitl [H2]; · iexact H2
      iexact H3
    iexact Hk
  | @store3 r w hx hm k g a g' _ ih =>
    intro K
    unfold held
    iintro ⟨⟨H1, H2, H3⟩, Hk⟩
    iapply (wp_store 𝒱₀ (c : Thread nD τ) bd E (m := a3) (r := r) (Mk := Finset.univ) (Finset.subset_univ _)) $$ H3; iintro H3
    iapply (ih K)
    isplitl [H1 H2 H3]
    · unfold held
      isplitl [H1]; · iexact H1
      isplitl [H2]; · iexact H2
      iexact H3
    iexact Hk
  | @call A res k g a g' hA _ ih =>
    intro K
    obtain ⟨v, hv, hS⟩ := hW A res hA
    iintro ⟨H, Hk⟩
    iapply (wp_call_spec 𝒱₀ (c : Thread nD τ) bd E (lend c a1 f1 a2 f2 a3 g res) v hv (hS g))
    rw [lend_apply]
    isplitl [H]; · iexact H
    iintro H
    iapply (ih K)
    isplitl [H]; · iexact H
    iexact Hk

end

end Cert.Proof

end
-- ==== Proof.Folds.lean ====
/-
  What the kernel's body computes on one block of rows, as folds over the 97 full chunks of 1024 columns and the tail of
  672: the target's score, the row maxima, the count of entries at or above a threshold, the three accumulators of the
  final pass, the search loop as a recursion on the trips still to run, and the block's own share of the loss.
-/
module

public import proofs.«01_k».proof.KernelIdeal
public import proofs.«01_k».proof.Proof.Gen.KernelIdeal
public import proofs.«01_k».proof.Proof.Gen.KernelIdeal.Skeleton

@[expose] public section

set_option maxRecDepth 16384

noncomputable section

namespace Cert.Proof

open Cert.KernelIdeal Cert.KernelIdeal.Gen

open Idealize.ShloMosaic
open Idealize.ShloMosaic.TcCoe

variable {F : FTy → Type} [FloatOps F] [Named F]

/-- The reads of a block: what a load of each rectangle returns. -/
abbrev Reads (F : FTy → Type) : Type := (r : LoadRect S32x100000) → r.shape.Idx → Elt F .f32

theorem inb_ch (n : ℕ) (h : n < 97) : ∀ a, (![0, 1024 * n] : Fin 2 → ℕ) a + (S32x1024.size a) ≤ S32x100000.size a := by
  intro a; fin_cases a
  · show 0 + 32 ≤ 32; omega
  · show 1024 * n + 1024 ≤ 100000; omega

/-- The `n`-th chunk of 1024 columns. -/
def ch (rd : Reads F) (n : ℕ) (h : n < 97) : Vec F S32x1024 .f32 :=
  rd (Rect.unit (s := S32x100000) ![0, 1024 * n] S32x1024.size (inb_ch n h)).toLoadRect

/-- The last 672 columns. -/
def tl (rd : Reads F) : Vec F S32x672 .f32 :=
  rd (Rect.unit (s := S32x100000) ![0, 99328] S32x672.size inb_S32x100000_S32x672_0_99328).toLoadRect

/-- The target's score, gathered chunk by chunk: kept where the column is the target's. -/
def posF (rd : Reads F) (v1 : IVec S32x1 32) : (n : ℕ) → n ≤ 97 → FVec F S32x1024 .f32
  | 0, _ => broadcast S32x1024 (Scalar.ofBits .f32 0x00000000#32)
  | n + 1, h => select (cmpi .eq (iota .tc S32x1024 32 [1] iota_S32x1024_d1_w32)
      (broadcastTo S32x1024 (subi v1 (broadcast S32x1 (BitVec.ofNat 32 (1024 * n)))) broadcasts_S32x1_S32x1024))
      (addf (posF rd v1 n (Nat.le_of_succ_le h)) (ch rd n h)) (posF rd v1 n (Nat.le_of_succ_le h))

/-- The maxima, chunk by chunk. -/
def mxF (rd : Reads F) : (n : ℕ) → n ≤ 97 → FVec F S32x1024 .f32
  | 0, _ => broadcast S32x1024 (Scalar.ofBits .f32 0xFF800000#32)
  | n + 1, h => maximumf (mxF rd n (Nat.le_of_succ_le h)) (ch rd n h)

/-- The count of entries at or above the threshold. -/
def cntF (rd : Reads F) (th : FVec F S32x1 .f32) : (n : ℕ) → n ≤ 97 → IVec S32x1024 32
  | 0, _ => broadcast S32x1024 0#32
  | n + 1, h => select (cmpf .oge (ch rd n h) (broadcastTo S32x1024 th broadcasts_S32x1_S32x1024))
      (addi (cntF rd th n (Nat.le_of_succ_le h)) (broadcast S32x1024 1#32)) (cntF rd th n (Nat.le_of_succ_le h))

/-- The entries of a chunk above the threshold. -/
def gtF (rd : Reads F) (th : FVec F S32x1 .f32) (n : ℕ) (h : n < 97) : IVec S32x1024 1 :=
  cmpf .ogt (ch rd n h) (broadcastTo S32x1024 th broadcasts_S32x1_S32x1024)

/-- The count of entries above the threshold. -/
def cgtF (rd : Reads F) (th : FVec F S32x1 .f32) : (n : ℕ) → n ≤ 97 → IVec S32x1024 32
  | 0, _ => broadcast S32x1024 0#32
  | n + 1, h => select (gtF rd th n h)
      (addi (cgtF rd th n (Nat.le_of_succ_le h)) (broadcast S32x1024 1#32)) (cgtF rd th n (Nat.le_of_succ_le h))

/-- The squares `(1 + x)²` of a chunk. -/
def sqF (rd : Reads F) (n : ℕ) (h : n < 97) : FVec F S32x1024 .f32 :=
  mulf (addf (broadcast S32x1024 (Scalar.ofBits .f32 0x3F800000#32)) (ch rd n h))
    (addf (broadcast S32x1024 (Scalar.ofBits .f32 0x3F800000#32)) (ch rd n h))

/-- The sum of the squares of the entries above the threshold. -/
def sgtF (rd : Reads F) (th : FVec F S32x1 .f32) : (n : ℕ) → n ≤ 97 → FVec F S32x1024 .f32
  | 0, _ => broadcast S32x1024 (Scalar.ofBits .f32 0x00000000#32)
  | n + 1, h => select (gtF rd th n h)
      (addf (sgtF rd th n (Nat.le_of_succ_le h)) (sqF rd n h)) (sgtF rd th n (Nat.le_of_succ_le h))

/-- The least entry above the threshold. -/
def mnF (rd : Reads F) (th : FVec F S32x1 .f32) : (n : ℕ) → n ≤ 97 → FVec F S32x1024 .f32
  | 0, _ => broadcast S32x1024 (Scalar.ofBits .f32 0x7F800000#32)
  | n + 1, h => select (gtF rd th n h)
      (minimumf (mnF rd th n (Nat.le_of_succ_le h)) (ch rd n h)) (mnF rd th n (Nat.le_of_succ_le h))

/-- A chunk's 1024 counts added down to 128. -/
def foldI (v : IVec S32x1024 32) : IVec S32x128 32 :=
  addi
    (addi (addi (extractStridedSlice S32x128 ![0, 0] v slices_S32x1024_o0_0_S32x128)
        (extractStridedSlice S32x128 ![0, 128] v slices_S32x1024_o0_128_S32x128))
      (addi (extractStridedSlice S32x128 ![0, 256] v slices_S32x1024_o0_256_S32x128)
        (extractStridedSlice S32x128 ![0, 384] v slices_S32x1024_o0_384_S32x128)))
    (addi (addi (extractStridedSlice S32x128 ![0, 512] v slices_S32x1024_o0_512_S32x128)
        (extractStridedSlice S32x128 ![0, 640] v slices_S32x1024_o0_640_S32x128))
      (addi (extractStridedSlice S32x128 ![0, 768] v slices_S32x1024_o0_768_S32x128)
        (extractStridedSlice S32x128 ![0, 896] v slices_S32x1024_o0_896_S32x128)))

/-- The count of a row's entries at or above the threshold. -/
def cntAll (rd : Reads F) (th : FVec F S32x1 .f32) : IVec S32x1 32 :=
  k0_pay5 (k0_pay305 (tl rd) th) (foldI (cntF rd th 97 le_rfl))

/-- The row maxima. -/
def mxAll (rd : Reads F) : FVec F S32x1 .f32 := k0_pay57 (mxF rd 97 le_rfl) (tl rd)

/-- Whether the loop goes on. -/
abbrev goesOn (b : BitVec 32) (d : IVec S32x1 32) : Prop :=
  Scalar.andi (Scalar.cmpi .slt b 32#32) (Scalar.cmpi .eq (extractAt ![0, 0, 0] (k0_pay1 d) inpos_S1x1x1_p0_0_0) 0#32) = 1#1

/-- Whether some live row's threshold is not above its maximum. -/
abbrev anyLive (mx : FVec F S32x1 .f32) (b : BitVec 32) (p d : IVec S32x1 32) : Prop :=
  Scalar.cmpi .ne (Scalar.extui (Scalar.cmpf .ogt (k0_pay4 mx b p d) (Scalar.ofBits (F := F) .f32 0x00000000#32)) : BitVec 32) 0#32 = 1#1

/-- The counts of one trip. -/
def tripCnt (rd : Reads F) (mx : FVec F S32x1 .f32) (b : BitVec 32) (p d : IVec S32x1 32) : IVec S32x1 32 :=
  if anyLive mx b p d then cntAll rd (k0_pay3 b p) else k0_pay6

/-- The search loop with at most `n` trips to run, at bit `b`, prefix `p`, done flags `d`. -/
def whileVal (rd : Reads F) (mx : FVec F S32x1 .f32) : ℕ → BitVec 32 → IVec S32x1 32 → IVec S32x1 32 →
    BitVec 32 × IVec S32x1 32 × IVec S32x1 32
  | 0, b, p, d => (b, p, d)
  | n + 1, b, p, d =>
    if goesOn b d then
      whileVal rd mx n (Scalar.addi b 1#32) (k0_pay7 b p d (tripCnt rd mx b p d)) (k0_pay8 d (tripCnt rd mx b p d))
    else (b, p, d)

/-- The threshold the search ends at. -/
def tf (rd : Reads F) : FVec F S32x1 .f32 :=
  k0_pay60 (whileVal rd (mxAll rd) 32 0#32 k0_pay58 k0_pay59).2.1

/-- The output after the block: what it held before, and the block's share. -/
def blockOut (rd : Reads F) (v0 : Vec F S32x1 .i32) (old : Vec F S1x1 .f32) : FVec F S1x1 .f32 :=
  k0_pay277 (tl rd) (k0_pay56 (k0_pay9 v0) (posF rd (k0_pay9 v0) 97 le_rfl) (tl rd)) (tf rd)
    (k0_pay265 (tl rd) (tf rd))
    (k0_pay272 (cgtF rd (tf rd) 97 le_rfl) (k0_pay265 (tl rd) (tf rd))
      (extractStridedSlice S32x128 ![0, 0] (cgtF rd (tf rd) 97 le_rfl) slices_S32x1024_o0_0_S32x128)
      (extractStridedSlice S32x128 ![0, 128] (cgtF rd (tf rd) 97 le_rfl) slices_S32x1024_o0_128_S32x128)
      (extractStridedSlice S32x128 ![0, 256] (cgtF rd (tf rd) 97 le_rfl) slices_S32x1024_o0_256_S32x128)
      (extractStridedSlice S32x128 ![0, 384] (cgtF rd (tf rd) 97 le_rfl) slices_S32x1024_o0_384_S32x128)
      (extractStridedSlice S32x128 ![0, 512] (cgtF rd (tf rd) 97 le_rfl) slices_S32x1024_o0_512_S32x128)
      (extractStridedSlice S32x128 ![0, 640] (cgtF rd (tf rd) 97 le_rfl) slices_S32x1024_o0_640_S32x128))
    (k0_pay273 (sgtF rd (tf rd) 97 le_rfl) (k0_pay264 (tl rd)) (k0_pay265 (tl rd) (tf rd)))
    (k0_pay274 (mnF rd (tf rd) 97 le_rfl)) (k0_pay275 (mnF rd (tf rd) 97 le_rfl)) old

end Cert.Proof

end
-- ==== Proof.Body.lean ====
/-
  The search loop's label and the kernel's body as runs: each piece loads its chunks in turn and computes its payloads,
  which are the folds of `Folds`.
-/
module

public import proofs.«01_k».proof.Proof.Runs
public import proofs.«01_k».proof.Proof.Folds

@[expose] public section

set_option maxRecDepth 16384

noncomputable section

namespace Cert.Proof

open Cert.KernelIdeal Cert.KernelIdeal.Gen

open Idealize.ShloMosaic
open Idealize.ShloMosaic.TcCoe

variable {F : FTy → Type} [FloatOps F] [Named F]

section

variable (c : Dev nD)
  (a1 : Memref sig .tc .vmem S32x1 .i32) (f1 : Buf (Elt F) (a1.view.loc (c : Thread nD τ)))
  (a2 : Memref sig .tc .vmem S32x100000 .f32) (f2 : Buf (Elt F) (a2.view.loc (c : Thread nD τ)))
  (a3 : Memref sig .tc .vmem S1x1 .f32)
  (W : Cc0While1 F → BitVec 32 × IVec S32x1 32 × IVec S32x1 32 → Prop)

/-- What the second operand's loads return. -/
abbrev rdOf : Reads F := fun r => a2.view.readAt (Elt F) r f2

set_option maxHeartbeats 0 in
/-- One entry of the search loop's label: it stops, or runs the trip and calls itself. -/
theorem runs_while (i : grid0.Coords) (mx : FVec F S32x1 .f32) (h2 : a2.IsWhole) (b : BitVec 32)
    (p d : IVec S32x1 32) (res : BitVec 32 × IVec S32x1 32 × IVec S32x1 32) (g : Buf (Elt F) (a3.view.loc (c : Thread nD τ)))
    (hW : goesOn b d → W ⟨i, mx, a2, h2, tl (rdOf c a2 f2), Scalar.addi b 1#32, k0_pay7 b p d (tripCnt (rdOf c a2 f2) mx b p d),
      k0_pay8 d (tripCnt (rdOf c a2 f2) mx b p d)⟩ res) (hS : ¬ goesOn b d → res = (b, p, d)) :
    Runs c a1 f1 a2 f2 a3 W (cc0_while1 i mx a2 h2 (tl (rdOf c a2 f2)) b p d) g res g := by
  rw [cc0_while1_eq_skeleton]
  unfold cc0_while1_skel
  by_cases hg : goesOn b d
  swap
  · rw [hS hg]
    simp only [if_neg hg]
    exact Runs.ret _ _
  simp only [if_pos hg]
  have hW := hW hg
  by_cases hl : anyLive mx b p d
  swap
  · simp only [tripCnt, if_neg hl] at hW
    simp only [if_neg hl]
    exact .call hW (.ret _ _)
  simp only [tripCnt, if_pos hl, cntAll] at hW
  simp only [if_pos hl]
  simp only [k0_part50_eq_skeleton, k0_part51_eq_skeleton, k0_part52_eq_skeleton, k0_part53_eq_skeleton, k0_part54_eq_skeleton,
    k0_part55_eq_skeleton, k0_part56_eq_skeleton, k0_part57_eq_skeleton, k0_part58_eq_skeleton,
    k0_part59_eq_skeleton, k0_part60_eq_skeleton, k0_part61_eq_skeleton, k0_part62_eq_skeleton,
    k0_part63_eq_skeleton, k0_part64_eq_skeleton]
  unfold k0_part50_skel k0_part51_skel k0_part52_skel k0_part53_skel k0_part54_skel k0_part55_skel k0_part56_skel
    k0_part57_skel k0_part58_skel k0_part59_skel k0_part60_skel k0_part61_skel k0_part62_skel k0_part63_skel k0_part64_skel
  refine
    .bind (g₁ := g) (a := ⟨cntF (rdOf c a2 f2) (k0_pay3 b p) 6 (by omega), ?_, ?_⟩) ?p1 <|
    .bind (g₁ := g) (a := cntF (rdOf c a2 f2) (k0_pay3 b p) 13 (by omega)) ?p2 <|
    .bind (g₁ := g) (a := ⟨cntF (rdOf c a2 f2) (k0_pay3 b p) 19 (by omega), ?_, ?_⟩) ?p3 <|
    .bind (g₁ := g) (a := ⟨cntF (rdOf c a2 f2) (k0_pay3 b p) 26 (by omega), ?_, ?_⟩) ?p4 <|
    .bind (g₁ := g) (a := cntF (rdOf c a2 f2) (k0_pay3 b p) 33 (by omega)) ?p5 <|
    .bind (g₁ := g) (a := ⟨cntF (rdOf c a2 f2) (k0_pay3 b p) 39 (by omega), ?_, ?_⟩) ?p6 <|
    .bind (g₁ := g) (a := ⟨cntF (rdOf c a2 f2) (k0_pay3 b p) 46 (by omega), ?_, ?_⟩) ?p7 <|
    .bind (g₁ := g) (a := cntF (rdOf c a2 f2) (k0_pay3 b p) 53 (by omega)) ?p8 <|
    .bind (g₁ := g) (a := ⟨cntF (rdOf c a2 f2) (k0_pay3 b p) 59 (by omega), ?_, ?_⟩) ?p9 <|
    .bind (g₁ := g) (a := ⟨cntF (rdOf c a2 f2) (k0_pay3 b p) 66 (by omega), ?_, ?_⟩) ?p10 <|
    .bind (g₁ := g) (a := cntF (rdOf c a2 f2) (k0_pay3 b p) 73 (by omega)) ?p11 <|
    .bind (g₁ := g) (a := ⟨cntF (rdOf c a2 f2) (k0_pay3 b p) 79 (by omega), ?_, ?_⟩) ?p12 <|
    .bind (g₁ := g) (a := ⟨cntF (rdOf c a2 f2) (k0_pay3 b p) 86 (by omega), ?_, ?_⟩) ?p13 <|
    .bind (g₁ := g) (a := cntF (rdOf c a2 f2) (k0_pay3 b p) 93 (by omega)) ?p14 <|
    .bind (g₁ := g) (a := ⟨k0_pay305 (tl (rdOf c a2 f2)) (k0_pay3 b p), foldI (cntF (rdOf c a2 f2) (k0_pay3 b p) 97 le_rfl)⟩) ?p15 ?last
  case p1 | p2 | p3 | p4 | p5 | p6 | p7 | p8 | p9 | p10 | p11 | p12 | p13 | p14 | p15 =>
    repeat refine Runs.bind (.load2 (.ret _ _)) ?_
    exact Runs.ret _ _
  case last =>
    refine .call ?_ (.ret _ _)
    dsimp only
    exact hW

/-- The first operand's load: the block's targets. -/
abbrev tgtOf : Vec F S32x1 .i32 := a1.view.readAt (Elt F) (Rect.unit (s := S32x1) ![0, 0] S32x1.size inb_S32x1_S32x1_0_0).toLoadRect f1

/-- The output's one entry as a rectangle. -/
abbrev r1 : Rect S1x1 := Rect.unit (s := S1x1) ![0, 0] S1x1.size inb_S1x1_S1x1_0_0

/-- The body's test for the grid's first point. -/
abbrev firstPt (i : grid0.Coords) : Prop :=
  Scalar.cmpi .ne (Scalar.extui (Scalar.cmpi .eq (BitVec.ofNat 32 (i 0).val) 0#32) : BitVec 32) 0#32 = 1#1

/-- The output as the body's accumulation finds it: zeroed at the first point. -/
def outStart (i : grid0.Coords) (g : Buf (Elt F) (a3.view.loc (c : Thread nD τ))) : Buf (Elt F) (a3.view.loc (c : Thread nD τ)) :=
  if firstPt i then (a3.access r1).write (Elt F) g (k0_pay276 (F := F)) Finset.univ else g

/-- The output as the body leaves it. -/
def outEnd (i : grid0.Coords) (g : Buf (Elt F) (a3.view.loc (c : Thread nD τ))) : Buf (Elt F) (a3.view.loc (c : Thread nD τ)) :=
  (a3.access r1).write (Elt F) (outStart c a3 i g)
    (blockOut (rdOf c a2 f2) (tgtOf c a1 f1) (a3.view.readAt (Elt F) r1.toLoadRect (outStart c a3 i g))) Finset.univ

set_option maxHeartbeats 0 in
/-- The kernel's body: two passes over the block around the search, then the accumulation into the output. -/
theorem runs_body (i : grid0.Coords) (h1 : a1.IsWhole) (h2 : a2.IsWhole) (h3 : a3.IsWhole)
    (g : Buf (Elt F) (a3.view.loc (c : Thread nD τ)))
    (hW : W ⟨i, mxAll (rdOf c a2 f2), a2, h2, tl (rdOf c a2 f2), 0#32, k0_pay58, k0_pay59⟩
      (whileVal (rdOf c a2 f2) (mxAll (rdOf c a2 f2)) 32 0#32 k0_pay58 k0_pay59)) :
    Runs c a1 f1 a2 f2 a3 W (cc0__body i a1 h1 a2 h2 a3 h3) g ⟨⟩ (outEnd c a1 f1 a2 f2 a3 i g) := by
  rw [cc0__body_eq_skeleton]
  unfold cc0__body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton,
    k0_part15_eq_skeleton, k0_part16_eq_skeleton, k0_part17_eq_skeleton, k0_part18_eq_skeleton,
    k0_part19_eq_skeleton, k0_part20_eq_skeleton, k0_part21_eq_skeleton, k0_part22_eq_skeleton,
    k0_part23_eq_skeleton, k0_part24_eq_skeleton, k0_part25_eq_skeleton, k0_part26_eq_skeleton,
    k0_part27_eq_skeleton, k0_part28_eq_skeleton, k0_part29_eq_skeleton, k0_part30_eq_skeleton,
    k0_part31_eq_skeleton, k0_part32_eq_skeleton, k0_part33_eq_skeleton, k0_part34_eq_skeleton,
    k0_part35_eq_skeleton, k0_part36_eq_skeleton, k0_part37_eq_skeleton, k0_part38_eq_skeleton,
    k0_part39_eq_skeleton, k0_part40_eq_skeleton, k0_part41_eq_skeleton, k0_part42_eq_skeleton,
    k0_part43_eq_skeleton, k0_part44_eq_skeleton, k0_part45_eq_skeleton, k0_part46_eq_skeleton,
    k0_part47_eq_skeleton, k0_part48_eq_skeleton, k0_part49_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel
    k0_part16_skel k0_part17_skel k0_part18_skel k0_part19_skel k0_part20_skel k0_part21_skel k0_part22_skel
    k0_part23_skel k0_part24_skel k0_part25_skel k0_part26_skel k0_part27_skel k0_part28_skel k0_part29_skel
    k0_part30_skel k0_part31_skel k0_part32_skel k0_part33_skel k0_part34_skel k0_part35_skel k0_part36_skel
    k0_part37_skel k0_part38_skel k0_part39_skel k0_part40_skel k0_part41_skel k0_part42_skel k0_part43_skel
    k0_part44_skel k0_part45_skel k0_part46_skel k0_part47_skel k0_part48_skel k0_part49_skel
  refine
    .bind (g₁ := g) (a := ⟨?_, (k0_pay9 (tgtOf c a1 f1)), ?_, posF (rdOf c a2 f2) (k0_pay9 (tgtOf c a1 f1)) 4 (by omega), mxF (rdOf c a2 f2) 4 (by omega), ?_, ?_⟩) ?p1 <|
    .bind (g₁ := g) (a := ⟨posF (rdOf c a2 f2) (k0_pay9 (tgtOf c a1 f1)) 10 (by omega), mxF (rdOf c a2 f2) 10 (by omega)⟩) ?p2 <|
    .bind (g₁ := g) (a := ⟨posF (rdOf c a2 f2) (k0_pay9 (tgtOf c a1 f1)) 15 (by omega), mxF (rdOf c a2 f2) 15 (by omega), ?_, ?_⟩) ?p3 <|
    .bind (g₁ := g) (a := ⟨mxF (rdOf c a2 f2) 20 (by omega), ?_, posF (rdOf c a2 f2) (k0_pay9 (tgtOf c a1 f1)) 21 (by omega)⟩) ?p4 <|
    .bind (g₁ := g) (a := ⟨posF (rdOf c a2 f2) (k0_pay9 (tgtOf c a1 f1)) 26 (by omega), mxF (rdOf c a2 f2) 26 (by omega), ?_, ?_⟩) ?p5 <|
    .bind (g₁ := g) (a := ⟨posF (rdOf c a2 f2) (k0_pay9 (tgtOf c a1 f1)) 31 (by omega), mxF (rdOf c a2 f2) 31 (by omega), ?_, ?_, ?_⟩) ?p6 <|
    .bind (g₁ := g) (a := ⟨posF (rdOf c a2 f2) (k0_pay9 (tgtOf c a1 f1)) 37 (by omega), mxF (rdOf c a2 f2) 37 (by omega), ?_⟩) ?p7 <|
    .bind (g₁ := g) (a := ⟨posF (rdOf c a2 f2) (k0_pay9 (tgtOf c a1 f1)) 42 (by omega), mxF (rdOf c a2 f2) 42 (by omega), ?_, ?_⟩) ?p8 <|
    .bind (g₁ := g) (a := ⟨posF (rdOf c a2 f2) (k0_pay9 (tgtOf c a1 f1)) 48 (by omega), mxF (rdOf c a2 f2) 48 (by omega)⟩) ?p9 <|
    .bind (g₁ := g) (a := ⟨posF (rdOf c a2 f2) (k0_pay9 (tgtOf c a1 f1)) 53 (by omega), mxF (rdOf c a2 f2) 53 (by omega), ?_, ?_⟩) ?p10 <|
    .bind (g₁ := g) (a := ⟨posF (rdOf c a2 f2) (k0_pay9 (tgtOf c a1 f1)) 59 (by omega), mxF (rdOf c a2 f2) 59 (by omega)⟩) ?p11 <|
    .bind (g₁ := g) (a := ⟨posF (rdOf c a2 f2) (k0_pay9 (tgtOf c a1 f1)) 64 (by omega), mxF (rdOf c a2 f2) 64 (by omega), ?_, ?_⟩) ?p12 <|
    .bind (g₁ := g) (a := ⟨posF (rdOf c a2 f2) (k0_pay9 (tgtOf c a1 f1)) 70 (by omega), mxF (rdOf c a2 f2) 70 (by omega)⟩) ?p13 <|
    .bind (g₁ := g) (a := ⟨posF (rdOf c a2 f2) (k0_pay9 (tgtOf c a1 f1)) 75 (by omega), mxF (rdOf c a2 f2) 75 (by omega), ?_, ?_⟩) ?p14 <|
    .bind (g₁ := g) (a := ⟨mxF (rdOf c a2 f2) 80 (by omega), ?_, posF (rdOf c a2 f2) (k0_pay9 (tgtOf c a1 f1)) 81 (by omega)⟩) ?p15 <|
    .bind (g₁ := g) (a := ⟨posF (rdOf c a2 f2) (k0_pay9 (tgtOf c a1 f1)) 86 (by omega), mxF (rdOf c a2 f2) 86 (by omega), ?_, ?_⟩) ?p16 <|
    .bind (g₁ := g) (a := ⟨posF (rdOf c a2 f2) (k0_pay9 (tgtOf c a1 f1)) 91 (by omega), mxF (rdOf c a2 f2) 91 (by omega), ?_, ?_, ?_⟩) ?p17 <|
    .bind (g₁ := g) (a := ⟨posF (rdOf c a2 f2) (k0_pay9 (tgtOf c a1 f1)) 97 (by omega), mxF (rdOf c a2 f2) 97 (by omega), tl (rdOf c a2 f2)⟩) ?p18 <|
    .bind (g₁ := g) (a := ⟨k0_pay56 (k0_pay9 (tgtOf c a1 f1)) (posF (rdOf c a2 f2) (k0_pay9 (tgtOf c a1 f1)) 97 le_rfl) (tl (rdOf c a2 f2)),
      (whileVal (rdOf c a2 f2) (mxAll (rdOf c a2 f2)) 32 0#32 k0_pay58 k0_pay59).2.1⟩) ?search <|
    .bind (g₁ := g) (a := ⟨tf (rdOf c a2 f2), cgtF (rdOf c a2 f2) (tf (rdOf c a2 f2)) 2 (by omega), sgtF (rdOf c a2 f2) (tf (rdOf c a2 f2)) 2 (by omega), mnF (rdOf c a2 f2) (tf (rdOf c a2 f2)) 2 (by omega), ?_, ?_⟩) ?p20 <|
    .bind (g₁ := g) (a := ⟨mnF (rdOf c a2 f2) (tf (rdOf c a2 f2)) 5 (by omega), ?_, cgtF (rdOf c a2 f2) (tf (rdOf c a2 f2)) 6 (by omega), sgtF (rdOf c a2 f2) (tf (rdOf c a2 f2)) 6 (by omega), ?_⟩) ?p21 <|
    .bind (g₁ := g) (a := ⟨cgtF (rdOf c a2 f2) (tf (rdOf c a2 f2)) 9 (by omega), sgtF (rdOf c a2 f2) (tf (rdOf c a2 f2)) 9 (by omega), mnF (rdOf c a2 f2) (tf (rdOf c a2 f2)) 9 (by omega), ?_, ?_, ?_⟩) ?p22 <|
    .bind (g₁ := g) (a := ⟨cgtF (rdOf c a2 f2) (tf (rdOf c a2 f2)) 13 (by omega), sgtF (rdOf c a2 f2) (tf (rdOf c a2 f2)) 13 (by omega), mnF (rdOf c a2 f2) (tf (rdOf c a2 f2)) 13 (by omega)⟩) ?p23 <|
    .bind (g₁ := g) (a := ⟨cgtF (rdOf c a2 f2) (tf (rdOf c a2 f2)) 16 (by omega), sgtF (rdOf c a2 f2) (tf (rdOf c a2 f2)) 16 (by omega), mnF (rdOf c a2 f2) (tf (rdOf c a2 f2)) 16 (by omega), ?_, ?_, ?_⟩) ?p24 <|
    .bind (g₁ := g) (a := ⟨cgtF (rdOf c a2 f2) (tf (rdOf c a2 f2)) 20 (by omega), sgtF (rdOf c a2 f2) (tf (rdOf c a2 f2)) 20 (by omega), mnF (rdOf c a2 f2) (tf (rdOf c a2 f2)) 20 (by omega)⟩) ?p25 <|
    .bind (g₁ := g) (a := ⟨cgtF (rdOf c a2 f2) (tf (rdOf c a2 f2)) 23 (by omega), sgtF (rdOf c a2 f2) (tf (rdOf c a2 f2)) 23 (by omega), mnF (rdOf c a2 f2) (tf (rdOf c a2 f2)) 23 (by omega), ?_, ?_, ?_, ?_⟩) ?p26 <|
    .bind (g₁ := g) (a := ⟨cgtF (rdOf c a2 f2) (tf (rdOf c a2 f2)) 27 (by omega), sgtF (rdOf c a2 f2) (tf (rdOf c a2 f2)) 27 (by omega), mnF (rdOf c a2 f2) (tf (rdOf c a2 f2)) 27 (by omega)⟩) ?p27 <|
    .bind (g₁ := g) (a := ⟨cgtF (rdOf c a2 f2) (tf (rdOf c a2 f2)) 30 (by omega), sgtF (rdOf c a2 f2) (tf (rdOf c a2 f2)) 30 (by omega), mnF (rdOf c a2 f2) (tf (rdOf c a2 f2)) 30 (by omega), ?_, ?_, ?_, ?_⟩) ?p28 <|
    .bind (g₁ := g) (a := ⟨cgtF (rdOf c a2 f2) (tf (rdOf c a2 f2)) 34 (by omega), sgtF (rdOf c a2 f2) (tf (rdOf c a2 f2)) 34 (by omega), mnF (rdOf c a2 f2) (tf (rdOf c a2 f2)) 34 (by omega), ?_⟩) ?p29 <|
    .bind (g₁ := g) (a := ⟨cgtF (rdOf c a2 f2) (tf (rdOf c a2 f2)) 37 (by omega), sgtF (rdOf c a2 f2) (tf (rdOf c a2 f2)) 37 (by omega), mnF (rdOf c a2 f2) (tf (rdOf c a2 f2)) 37 (by omega), ?_, ?_, ?_, ?_⟩) ?p30 <|
    .bind (g₁ := g) (a := ⟨cgtF (rdOf c a2 f2) (tf (rdOf c a2 f2)) 41 (by omega), sgtF (rdOf c a2 f2) (tf (rdOf c a2 f2)) 41 (by omega), mnF (rdOf c a2 f2) (tf (rdOf c a2 f2)) 41 (by omega), ?_, ?_⟩) ?p31 <|
    .bind (g₁ := g) (a := ⟨sgtF (rdOf c a2 f2) (tf (rdOf c a2 f2)) 44 (by omega), mnF (rdOf c a2 f2) (tf (rdOf c a2 f2)) 44 (by omega), ?_, ?_, ?_, cgtF (rdOf c a2 f2) (tf (rdOf c a2 f2)) 45 (by omega)⟩) ?p32 <|
    .bind (g₁ := g) (a := ⟨cgtF (rdOf c a2 f2) (tf (rdOf c a2 f2)) 48 (by omega), sgtF (rdOf c a2 f2) (tf (rdOf c a2 f2)) 48 (by omega), mnF (rdOf c a2 f2) (tf (rdOf c a2 f2)) 48 (by omega), ?_, ?_⟩) ?p33 <|
    .bind (g₁ := g) (a := ⟨sgtF (rdOf c a2 f2) (tf (rdOf c a2 f2)) 51 (by omega), mnF (rdOf c a2 f2) (tf (rdOf c a2 f2)) 51 (by omega), ?_, ?_, cgtF (rdOf c a2 f2) (tf (rdOf c a2 f2)) 52 (by omega), ?_⟩) ?p34 <|
    .bind (g₁ := g) (a := ⟨cgtF (rdOf c a2 f2) (tf (rdOf c a2 f2)) 55 (by omega), sgtF (rdOf c a2 f2) (tf (rdOf c a2 f2)) 55 (by omega), mnF (rdOf c a2 f2) (tf (rdOf c a2 f2)) 55 (by omega), ?_, ?_⟩) ?p35 <|
    .bind (g₁ := g) (a := ⟨mnF (rdOf c a2 f2) (tf (rdOf c a2 f2)) 58 (by omega), ?_, ?_, cgtF (rdOf c a2 f2) (tf (rdOf c a2 f2)) 59 (by omega), sgtF (rdOf c a2 f2) (tf (rdOf c a2 f2)) 59 (by omega)⟩) ?p36 <|
    .bind (g₁ := g) (a := ⟨cgtF (rdOf c a2 f2) (tf (rdOf c a2 f2)) 62 (by omega), sgtF (rdOf c a2 f2) (tf (rdOf c a2 f2)) 62 (by omega), mnF (rdOf c a2 f2) (tf (rdOf c a2 f2)) 62 (by omega), ?_, ?_⟩) ?p37 <|
    .bind (g₁ := g) (a := ⟨mnF (rdOf c a2 f2) (tf (rdOf c a2 f2)) 65 (by omega), ?_, cgtF (rdOf c a2 f2) (tf (rdOf c a2 f2)) 66 (by omega), sgtF (rdOf c a2 f2) (tf (rdOf c a2 f2)) 66 (by omega), ?_⟩) ?p38 <|
    .bind (g₁ := g) (a := ⟨cgtF (rdOf c a2 f2) (tf (rdOf c a2 f2)) 69 (by omega), sgtF (rdOf c a2 f2) (tf (rdOf c a2 f2)) 69 (by omega), mnF (rdOf c a2 f2) (tf (rdOf c a2 f2)) 69 (by omega), ?_, ?_, ?_⟩) ?p39 <|
    .bind (g₁ := g) (a := ⟨cgtF (rdOf c a2 f2) (tf (rdOf c a2 f2)) 73 (by omega), sgtF (rdOf c a2 f2) (tf (rdOf c a2 f2)) 73 (by omega), mnF (rdOf c a2 f2) (tf (rdOf c a2 f2)) 73 (by omega)⟩) ?p40 <|
    .bind (g₁ := g) (a := ⟨cgtF (rdOf c a2 f2) (tf (rdOf c a2 f2)) 76 (by omega), sgtF (rdOf c a2 f2) (tf (rdOf c a2 f2)) 76 (by omega), mnF (rdOf c a2 f2) (tf (rdOf c a2 f2)) 76 (by omega), ?_, ?_, ?_⟩) ?p41 <|
    .bind (g₁ := g) (a := ⟨cgtF (rdOf c a2 f2) (tf (rdOf c a2 f2)) 80 (by omega), sgtF (rdOf c a2 f2) (tf (rdOf c a2 f2)) 80 (by omega), mnF (rdOf c a2 f2) (tf (rdOf c a2 f2)) 80 (by omega)⟩) ?p42 <|
    .bind (g₁ := g) (a := ⟨cgtF (rdOf c a2 f2) (tf (rdOf c a2 f2)) 83 (by omega), sgtF (rdOf c a2 f2) (tf (rdOf c a2 f2)) 83 (by omega), mnF (rdOf c a2 f2) (tf (rdOf c a2 f2)) 83 (by omega), ?_, ?_, ?_, ?_⟩) ?p43 <|
    .bind (g₁ := g) (a := ⟨cgtF (rdOf c a2 f2) (tf (rdOf c a2 f2)) 87 (by omega), sgtF (rdOf c a2 f2) (tf (rdOf c a2 f2)) 87 (by omega), mnF (rdOf c a2 f2) (tf (rdOf c a2 f2)) 87 (by omega)⟩) ?p44 <|
    .bind (g₁ := g) (a := ⟨cgtF (rdOf c a2 f2) (tf (rdOf c a2 f2)) 90 (by omega), sgtF (rdOf c a2 f2) (tf (rdOf c a2 f2)) 90 (by omega), mnF (rdOf c a2 f2) (tf (rdOf c a2 f2)) 90 (by omega), ?_, ?_, ?_, ?_⟩) ?p45 <|
    .bind (g₁ := g) (a := ⟨cgtF (rdOf c a2 f2) (tf (rdOf c a2 f2)) 94 (by omega), sgtF (rdOf c a2 f2) (tf (rdOf c a2 f2)) 94 (by omega), mnF (rdOf c a2 f2) (tf (rdOf c a2 f2)) 94 (by omega), ?_⟩) ?p46 <|
    .bind (g₁ := g) (a := ⟨cgtF (rdOf c a2 f2) (tf (rdOf c a2 f2)) 97 (by omega), sgtF (rdOf c a2 f2) (tf (rdOf c a2 f2)) 97 (by omega), mnF (rdOf c a2 f2) (tf (rdOf c a2 f2)) 97 (by omega), ?_, ?_, ?_, ?_, ?_, ?_, ?_, ?_⟩) ?p47 <|
    .bind (g₁ := g) (a := ⟨?_, ?_, ?_, ?_⟩) ?p48 <|
    .bind (g₁ := outStart c a3 i g)
      (a := blockOut (rdOf c a2 f2) (tgtOf c a1 f1) (a3.view.readAt (Elt F) r1.toLoadRect (outStart c a3 i g))) ?acc ?last
  case p1 | p2 | p3 | p4 | p5 | p6 | p7 | p8 | p9 | p10 | p11 | p12 | p13 | p14 | p15 | p16 | p17 | p18 | p20 |
    p21 | p22 | p23 | p24 | p25 | p26 | p27 | p28 | p29 | p30 | p31 | p32 | p33 | p34 | p35 | p36 | p37 | p38 |
    p39 | p40 | p41 | p42 | p43 | p44 | p45 | p46 | p47 | p48 =>
    repeat first | refine Runs.bind (.load2 (.ret _ _)) ?_ | refine Runs.bind (.load1 (.ret _ _)) ?_
    exact Runs.ret _ _
  case search =>
    generalize whileVal (rdOf c a2 f2) (mxAll (rdOf c a2 f2)) 32 0#32 k0_pay58 k0_pay59 = R at hW ⊢
    obtain ⟨R0, R1, R2⟩ := R
    refine Runs.bind (a := (R0, R1, R2)) (.call ?_ (.ret _ _)) (.ret _ _)
    dsimp only
    exact hW
  case acc =>
    by_cases hf : firstPt i
    · simp only [outStart, if_pos hf, dif_pos hf]
      refine Runs.bind (.load3 (.ret _ _)) ?_
      refine Runs.bind (.store3 (.ret _ _)) ?_
      refine Runs.bind (.load3 (.ret _ _)) ?_
      exact Runs.ret _ _
    · simp only [outStart, if_neg hf, dif_neg hf]
      refine Runs.bind (.load3 (.ret _ _)) ?_
      exact Runs.ret _ _
  case last =>
    refine Runs.bind (.load3 (.ret _ _)) ?_
    refine Runs.bind (.store3 (.ret _ _)) ?_
    exact Runs.ret _ _

end

end Cert.Proof

end
-- ==== Proof.Search.lean ====
/-
  The search loop's label meets its specification, by induction on the trips still to run, and the kernel's body is what its
  run says.
-/
module

public import proofs.«01_k».proof.Proof.Body

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

section

variable (c : Dev nD)
  (a1 : Memref sig .tc .vmem S32x1 .i32) (f1 : Buf (Elt F) (a1.view.loc (c : Thread nD τ)))
  (a2 : Memref sig .tc .vmem S32x100000 .f32) (f2 : Buf (Elt F) (a2.view.loc (c : Thread nD τ)))
  (a3 : Memref sig .tc .vmem S1x1 .f32)

/-- Past the last bit the loop stops. -/
theorem not_goesOn (d : IVec S32x1 32) : ¬ goesOn 32#32 d := by
  unfold goesOn
  generalize Scalar.cmpi .eq (extractAt ![0, 0, 0] (k0_pay1 d) inpos_S1x1x1_p0_0_0) 0#32 = z
  rw [show Scalar.cmpi .slt (32#32 : BitVec 32) 32#32 = 0#1 from by decide]
  revert z; decide

/-- The next bit. -/
theorem next_bit (n : ℕ) (h : n + 1 ≤ 32) :
    Scalar.addi (BitVec.ofNat 32 (32 - (n + 1))) 1#32 = BitVec.ofNat 32 (32 - n) := by
  have : 32 - n = 32 - (n + 1) + 1 := by omega
  rw [this, BitVec.ofNat_add]; rfl

/-- The label with `n` trips to run returns the search's value and gives the operands back. -/
theorem lend_le (i : grid0.Coords) (mx : FVec F S32x1 .f32) (h2 : a2.IsWhole) (E : Set ℕ) : ∀ (n : ℕ), n ≤ 32 →
    ∀ (p d : IVec S32x1 32) (g : Buf (Elt F) (a3.view.loc (c : Thread nD τ))),
    lend c a1 f1 a2 f2 a3 g (whileVal (rdOf c a2 f2) mx n (BitVec.ofNat 32 (32 - n)) p d)
      ≤ wp frame (wpE (defs₀ (F := F)) 𝒱₀ (c : Thread nD τ) (some n)) E
        (defs₀ (F := F) .tc 1 ⟨i, mx, a2, h2, tl (rdOf c a2 f2), BitVec.ofNat 32 (32 - n), p, d⟩)
  | 0, _ => fun p d g K => by
    rw [lend_apply]
    refine Runs.sound (bd := some (0 : ℕ)) c a1 f1 a2 f2 a3 (W := fun _ _ => False) (fun _ _ h => h.elim)
      (runs_while c a1 f1 a2 f2 a3 _ i mx h2 (BitVec.ofNat 32 (32 - 0)) p d _ g (fun h => ?_) (fun _ => rfl)) K
    exact not_goesOn d h
  | n + 1, hn => fun p d g K => by
    rw [lend_apply]
    refine Runs.sound (bd := some (n + 1 : ℕ)) c a1 f1 a2 f2 a3
      (W := fun A res => ∃ p d, A = ⟨i, mx, a2, h2, tl (rdOf c a2 f2), BitVec.ofNat 32 (32 - n), p, d⟩
        ∧ res = whileVal (rdOf c a2 f2) mx n (BitVec.ofNat 32 (32 - n)) p d) ?_
      (runs_while c a1 f1 a2 f2 a3 _ i mx h2 (BitVec.ofNat 32 (32 - (n + 1))) p d _ g (fun h => ?_) (fun h => ?_)) K
    · rintro A res ⟨p, d, rfl, rfl⟩
      exact ⟨n, fun u hu => by cases hu; exact Nat.lt_succ_self n, fun g => lend_le i mx h2 E n (by omega) p d g⟩
    · refine ⟨_, _, by rw [next_bit n hn], ?_⟩
      rw [whileVal, if_pos h, next_bit n hn]
    · rw [whileVal, if_neg h]

/-- The kernel's body, holding its three operands. -/
theorem body_wp (i : grid0.Coords) (h1 : a1.IsWhole) (h2 : a2.IsWhole) (h3 : a3.IsWhole) (E : Set ℕ)
    (g : Buf (Elt F) (a3.view.loc (c : Thread nD τ))) (K : PUnit → sProp 𝕄) :
    iprop(held c a1 f1 a2 f2 a3 g ∗ (held c a1 f1 a2 f2 a3 (outEnd c a1 f1 a2 f2 a3 i g) -∗ K ⟨⟩))
      ⊢ wp frame (wpE (defs₀ (F := F)) 𝒱₀ (c : Thread nD τ) none) E (cc0__body i a1 h1 a2 h2 a3 h3) K := by
  refine Runs.sound (bd := none) c a1 f1 a2 f2 a3
    (W := fun A res => A = ⟨i, mxAll (rdOf c a2 f2), a2, h2, tl (rdOf c a2 f2), 0#32, k0_pay58, k0_pay59⟩
      ∧ res = whileVal (rdOf c a2 f2) (mxAll (rdOf c a2 f2)) 32 0#32 k0_pay58 k0_pay59) ?_
    (runs_body c a1 f1 a2 f2 a3 _ i h1 h2 h3 g ⟨rfl, rfl⟩) K
  rintro A res ⟨rfl, rfl⟩
  refine ⟨(32 : ℕ), ?_, fun g => lend_le c a1 f1 a2 f2 a3 i _ h2 E 32 le_rfl _ _ g⟩
  intro u hu
  exact absurd hu (Option.not_mem_none u)

end

end Cert.Proof

end
-- ==== Proof.Run.lean ====
/-
  The kernel's run: the output after each grid point, the pipeline's proof data, the body obligation, and the launch of
  @main as a host line, the region and a host line. `run_main` says what every execution leaves in the buffers outside the
  region's staging, with every semaphore at zero.
-/
module

public import proofs.«01_k».proof.Proof.Search
public import proofs.«01_k».proof.Proof.Gen.KernelIdeal.Launch
public import proofs.«01_k».proof.Proof.Gen.KernelIdeal.Points
public import Idealize.ShloMosaic.Lib.Pipeline.FrameTail
public import Idealize.ShloMosaic.Lib.Pipeline.FrameBody
public import Idealize.ShloMosaic.Lib.Pipeline.KitQuiescent
public import Idealize.ShloMosaic.Lib.VecWindow

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F] [Named F]

local notation "𝕄" => MT nD τ sig Unit (Elt F) ℕ (UR nD τ) ℕ

/-! ## One grid point -/

/-- A block as its loads read it. -/
abbrev rdV (x : Vec F S32x100000 .f32) : Reads F := fun r j => x (r.idx j)

/-- The output after the point `i`, from the two blocks and what it held. -/
def stepOut (i : grid0.Coords) (x0 : Vec F S32x1 .i32) (x1 : Vec F S32x100000 .f32) (old : Vec F S1x1 .f32) : Vec F S1x1 .f32 :=
  blockOut (rdV x1) x0 (if firstPt i then k0_pay276 (F := F) else old)

/-- At the first point what the output held is not used. -/
theorem stepOut_first (i : grid0.Coords) (x0 : Vec F S32x1 .i32) (x1 : Vec F S32x100000 .f32) (old old' : Vec F S1x1 .f32)
    (h : firstPt i) : stepOut i x0 x1 old = stepOut i x0 x1 old' := by
  unfold stepOut; rw [if_pos h, if_pos h]

section

variable (c : Dev nD)
  (a1 : Memref sig .tc .vmem S32x1 .i32) (h1 : a1.IsWhole) (a2 : Memref sig .tc .vmem S32x100000 .f32) (h2 : a2.IsWhole)
  (a3 : Memref sig .tc .vmem S1x1 .f32) (h3 : a3.IsWhole)
  (i : grid0.Coords) (x0 : Vec F S32x1 .i32) (x1 : Vec F S32x100000 .f32) (old : Vec F S1x1 .f32)

theorem read_write_r1 (g : Buf (Elt F) (a3.view.loc (c : Thread nD τ))) (w : Vec F S1x1 .f32) :
    a3.view.read (Elt F) ((a3.access r1).write (Elt F) g w Finset.univ) = w :=
  View.read_writes_full a3.view g inb_S1x1_S1x1_0_0 w []

theorem rdOf_unread : rdOf c a2 (h2.unread x1) = rdV x1 := by
  funext r j
  exact congrFun (h2.read_unread x1) _

theorem tgtOf_unread : tgtOf c a1 (h1.unread x0) = x0 :=
  (View.readAt_full a1.view _ inb_S32x1_S32x1_0_0).trans (h1.read_unread x0)

theorem read_outStart (g : Buf (Elt F) (a3.view.loc (c : Thread nD τ))) (hg : a3.view.read (Elt F) g = old) :
    a3.view.readAt (Elt F) r1.toLoadRect (outStart c a3 i g) = if firstPt i then k0_pay276 (F := F) else old := by
  rw [show a3.view.readAt (Elt F) r1.toLoadRect (outStart c a3 i g) = a3.view.read (Elt F) (outStart c a3 i g) from
    View.readAt_full a3.view _ inb_S1x1_S1x1_0_0]
  unfold outStart
  split
  · exact read_write_r1 c a3 g _
  · exact hg

theorem read_outEnd (g : Buf (Elt F) (a3.view.loc (c : Thread nD τ))) (hg : a3.view.read (Elt F) g = old) :
    a3.view.read (Elt F) (outEnd c a1 (h1.unread x0) a2 (h2.unread x1) a3 i g) = stepOut i x0 x1 old := by
  unfold outEnd
  rw [read_write_r1, rdOf_unread, tgtOf_unread, read_outStart c a3 i old g hg]
  rfl

/-- The body on whole staging buffers read at their blocks. -/
theorem body_owns (E : Set ℕ) (K : PUnit → sProp 𝕄) :
    iprop(owns (c : Thread nD τ) a1 fullShare x0 ∗ owns (c : Thread nD τ) a2 fullShare x1 ∗ owns (c : Thread nD τ) a3 fullShare old
        ∗ (iprop(owns (c : Thread nD τ) a1 fullShare x0 ∗ owns (c : Thread nD τ) a2 fullShare x1
          ∗ owns (c : Thread nD τ) a3 fullShare (stepOut i x0 x1 old)) -∗ K ⟨⟩))
      ⊢ wp frame (wpE (defs₀ (F := F)) 𝒱₀ (c : Thread nD τ) none) E (cc0__body i a1 h1 a2 h2 a3 h3) K := by
  unfold owns
  rw [h1.set_eq_univ, h2.set_eq_univ, h3.set_eq_univ]
  iintro ⟨⟨%f1, %hf1, H1⟩, ⟨%f2, %hf2, H2⟩, ⟨%f3, %hf3, H3⟩, Hk⟩
  obtain rfl := h1.eq_unread hf1; obtain rfl := h2.eq_unread hf2
  iapply (body_wp c a1 (h1.unread x0) a2 (h2.unread x1) a3 i h1 h2 h3 E f3 K)
  unfold held
  isplitl [H1 H2 H3]
  · isplitl [H1]; · iexact H1
    isplitl [H2]; · iexact H2
    iexact H3
  iintro ⟨H1, H2, H3⟩
  iapply Hk
  isplitl [H1]
  · iexists _; isplitr; · ipureintro; exact hf1
    iexact H1
  isplitl [H2]
  · iexists _; isplitr; · ipureintro; exact hf2
    iexact H2
  iexists _; isplitr; swap; · iexact H3
  ipureintro; exact read_outEnd c a1 h1 a2 h2 a3 i x0 x1 old f3 hf3

end

/-! ## The proof data -/

variable (m : (ℓ : Loc nD τ sig) → Buf (Elt F) ℓ) (ρ : Dev nD → PrngReg)

/-- A device's buffers when the region starts. -/
abbrev V1 (c : Dev nD) : Valuation τ sig (Elt F) := StableHlo.after hostOps0 (StableHlo.launchContents m c)

/-- The targets' block at a point. -/
def tgtB (c : Dev nD) (t : Fin grid0.N) : Vec F S32x1 .i32 :=
  (win0_0.blk t).view.read (Elt F) (V1 m c (Proc.devRef .tc main_v0))

/-- The inputs' block at a point. -/
def inpB (c : Dev nD) (t : Fin grid0.N) : Vec F S32x100000 .f32 :=
  (win0_1.blk t).view.read (Elt F) (V1 m c (Proc.devRef .tc main_arg0))

/-- The output after the `n`-th point. -/
def outAt (c : Dev nD) : (n : ℕ) → n < grid0.N → Vec F S1x1 .f32
  | 0, h => stepOut (grid0.coords ⟨0, h⟩) (tgtB m c ⟨0, h⟩) (inpB m c ⟨0, h⟩) (k0_pay276 (F := F))
  | n + 1, h => stepOut (grid0.coords ⟨n + 1, h⟩) (tgtB m c ⟨n + 1, h⟩) (inpB m c ⟨n + 1, h⟩) (outAt c n (Nat.lt_of_succ_lt h))

/-- The pipeline's proof data. -/
def dats (_ : Fin 1) (c : Dev nD) : Dat τ (Elt F) Unit ℕ (UR nD τ) ℕ (cfg0 (F := F)) c where
  A w := V1 m c (Proc.devRef .tc (Pipeline.arrRef spec0 w))
  after w t := match w with
    | ⟨0, _⟩ => tgtB m c t
    | ⟨1, _⟩ => inpB m c t
    | ⟨2, _⟩ => outAt m c t.val t.isLt
  Φ _ := Pipeline.ΦA spec0 c
  q _ := fullShare
  owed _ := 0

theorem after_0 (c : Dev nD) (t : Fin (cfg0 (F := F)).N) : (dats m 0 c).after 0 t = tgtB m c t := rfl
theorem after_1 (c : Dev nD) (t : Fin (cfg0 (F := F)).N) : (dats m 0 c).after 1 t = inpB m c t := rfl
theorem after_2 (c : Dev nD) (t : Fin (cfg0 (F := F)).N) : (dats m 0 c).after 2 t = outAt m c t.val t.isLt := rfl

theorem before_0 (c : Dev nD) (t : Fin (cfg0 (F := F)).N) (d) : (dats m 0 c).before 0 t d = tgtB m c t := by
  rw [(dats m 0 c).before_fetched 0 t (fetch0_0 t) d]; rfl
theorem before_1 (c : Dev nD) (t : Fin (cfg0 (F := F)).N) (d) : (dats m 0 c).before 1 t d = inpB m c t := by
  rw [(dats m 0 c).before_fetched 1 t (fetch0_1 t) d]; rfl

theorem firstPt_zero : ∀ t : Fin grid0.N, t.val = 0 → firstPt (grid0.coords t) := by decide

/-- The body at a point leaves the output at `outAt`, whatever the first point finds. -/
theorem step_before (c : Dev nD) (t : Fin (cfg0 (F := F)).N) (d) :
    stepOut (grid0.coords t) (tgtB m c t) (inpB m c t) ((dats m 0 c).before 2 t d) = outAt m c t.val t.isLt := by
  obtain ⟨n, hn⟩ := t
  cases n with
  | zero =>
    exact stepOut_first _ _ _ _ _ (firstPt_zero ⟨0, hn⟩ rfl)
  | succ n =>
    have hN : (cfg0 (F := F)).N = 32 := N_0
    rw [(dats m 0 c).before_out_kept 2 rfl ⟨n + 1, hn⟩ (Nat.succ_ne_zero n)
      (by
        rw [← Bool.not_eq_true, flush0_2]
        show ¬ ((n + 1 - 1) % 32 = 31)
        omega)
      (fun _ => rfl) (fun _ _ => rfl) d, after_2]
    rfl

/-- The library's body obligation. -/
theorem body_obligation (c : Dev nD) : BodyObligation (dats (F := F) m 0 c) (defs₀ (F := F)) 𝒱₀ () Set.univ := fun t => by
  rw [bigSep_W0, bigSep_W0]
  sl_whnfR [defs₀, Defs.onTc]
  rw [show (dats m 0 c).Φ t.succ = (dats m 0 c).Φ t.castSucc from rfl,
    show (dats m 0 c).owesAt () t.succ = (dats m 0 c).owesAt () t.castSucc from rfl, after_0, after_1, after_2]
  iintro ⟨HΦ, Ho, ⟨%d0, H0⟩, ⟨%d1, H1⟩, ⟨%d2, H2⟩⟩
  iapply (body_owns c _ _ _ _ _ _ (grid0.coords t) (tgtB m c t) (inpB m c t) ((dats m 0 c).before 2 t d2) Set.univ _)
  isplitl [H0]
  · rw [show (dats m 0 c).before 0 t d0 = tgtB m c t from before_0 m c t d0]
    iexact H0
  isplitl [H1]
  · rw [show (dats m 0 c).before 1 t d1 = inpB m c t from before_1 m c t d1]
    iexact H1
  isplitl [H2]; · iexact H2
  rw [show stepOut (grid0.coords t) (tgtB m c t) (inpB m c t) ((dats m 0 c).before 2 t d2) = outAt m c t.val t.isLt from
    step_before m c t d2]
  iintro ⟨H0, H1, H2⟩
  isplitl [HΦ]; · iexact HΦ
  isplitl [Ho]; · iexact Ho
  isplitl [H0]; · iexact H0
  isplitl [H1]; · iexact H1
  iexact H2

/-! ## The launch -/

/-- A device's buffers when the region ends. -/
abbrev V2 (c : Dev nD) : Valuation τ sig (Elt F) := Pipeline.afterRegion (dats m 0 c) (V1 m c)

/-- A device's buffers at the end. -/
abbrev V3 (c : Dev nD) : Valuation τ sig (Elt F) := StableHlo.after hostOps1 (V2 m c)

abbrev adm : (p : Fin 1) → (pcfgs (F := F) p).Adm := fun p => (cfgs (F := F) p).toPCfg_adm

theorem kitP : Pipeline.PLaunchFacts (nD := nD) (τ := τ) (pcfgs (F := F)) 0 := (launch0 (F := F)).toP

abbrev L0 : GSem nD τ sig → Finset Unit := fun _ => ∅
abbrev lv0 : GSem nD τ sig → Unit → ℕ := fun _ _ => 0

/-- Beside the buffers before the region: the generator register, and the core owing nothing. -/
def R0 (c : Dev nD) : sProp 𝕄 := iprop(prngReg c (ρ c) ∗ owes (c.tc : Thread nD τ) (0 : CellTallies nD τ sig Unit) ∅)
/-- Beside the buffers after the region. -/
def R1 (c : Dev nD) : sProp 𝕄 := iprop((∃ r, prngReg c r) ∗ ∃ W, owes (c.tc : Thread nD τ) (0 : CellTallies nD τ sig Unit) W)

theorem fresh0 : ∀ op ∈ (hostOps0 : List (HloOp τ sig (Elt F))), op.fresh = ∅ := by
  intro _ h; cases h with | head => rfl | tail _ h => exact nomatch h
theorem fresh1 : ∀ op ∈ (hostOps1 : List (HloOp τ sig (Elt F))), op.fresh = ∅ := by
  intro _ h; cases h with | head => rfl | tail _ h => exact nomatch h

/-- The host line before the region. -/
def seg0 : Pipeline.HostSeg (Name := ℕ) (U := UR nD τ) (pcfgs (F := F)) defs₀ 𝒱₀ L0 lv0 :=
  Pipeline.HostSeg.ofOps _ _ _ _ _ (Pipeline.ucRefs τ sig) hostOps0
    (fun op h => Pipeline.sub_ucRefs op ((List.forall_iff_forall_mem.mp hostOps0_sub) op h)) fresh0
    (fun c => StableHlo.launchContents m c) (R0 ρ)

/-- The host line after the region. -/
def seg1 : Pipeline.HostSeg (Name := ℕ) (U := UR nD τ) (pcfgs (F := F)) defs₀ 𝒱₀ L0 lv0 :=
  Pipeline.HostSeg.ofOps _ _ _ _ _ (Pipeline.ucRefs τ sig) hostOps1
    (fun op h => Pipeline.sub_ucRefs op ((List.forall_iff_forall_mem.mp hostOps1_sub) op h)) fresh1
    (fun c => V2 m c) R1

theorem share_full (c : Dev nD) (w : Fin 3) : (dats m 0 c).share w = fullShare := (dats m 0 c).share_full (fun _ => rfl) w

set_option backward.isDefEq.respectTransparency.types false in
/-- The region. -/
def reg0 : Pipeline.RegionSeg (pcfgs (F := F)) adm (dats m) () defs₀ 𝒱₀ L0 lv0 0 where
  win := (kitP (F := F)).win.to₀
  block_pos := (kitP (F := F)).block_pos
  stage_whole := (kitP (F := F)).stage_whole
  K := PEmpty
  osem := fun k => k.elim
  ho := Pipeline.OwnSemFacts.none _
  hbody := fun c => (body_obligation m c).loose
  hwaits := Pipeline.hwaits_of_owed_zero pcfgs adm (dats m) () L0 lv0 0 (fun _ _ => rfl)
  pre := fun c => iprop(StableHlo.held (c.tc : Thread nD τ) (Pipeline.ucRefs τ sig) (V1 m c) ∗ R0 ρ c)
  post := fun c => iprop(StableHlo.held (c.tc : Thread nD τ) (Pipeline.ucRefs τ sig) (V2 m c) ∗ R1 c)
  X := fun c => iprop(∃ r, prngReg c r)
  Y := fun c => iprop(∃ r, prngReg c r)
  Z := fun c => Pipeline.unscopedRest (Ix := Unit) (Name := ℕ) (U := UR nD τ) (Lvl := ℕ) spec0 c (fun b => V1 m c (Proc.devRef .tc b))
  hentry := fun c => by
    rw [Pipeline.ownSems0_none,
      show StableHlo.held (c.tc : Thread nD τ) (Pipeline.ucRefs τ sig) (V1 m c) = unscopedBufs c (fun b => V1 m c (Proc.devRef .tc b))
        from (Pipeline.unscopedBufs_held (Ix := Unit) (Name := ℕ) (U := UR nD τ) (Lvl := ℕ) c (V1 m c)).symm]
    have hsplit := Pipeline.arrays_of_unscopedBufs (p := 0) pcfgs adm (dats m) (kitP (F := F)).win (kitP (F := F)).arr_whole c
      (share_full m c) (fun b => V1 m c (Proc.devRef .tc b)) (fun w => rfl)
    unfold R0
    iintro ⟨⟨Hub, Hp, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      iexists ∅; isplitr; · ipureintro; simp
      iexact HO
    isplitl [Hp]; · iexists _; iexact Hp
    iexact Hrest
  hin := fun c => by
    show _ ⊢ Pipeline.ΦA spec0 c
    unfold Pipeline.ΦA; iintro ⟨Hp, -, Hr⟩
    isplitl [Hr] <;> iassumption
  hout := fun c => by
    show Pipeline.ΦA spec0 c ⊢ _
    rw [Pipeline.ownSems0_none]; unfold Pipeline.ΦA
    iintro ⟨Hr, Hp⟩
    isplitl [Hp]; · iexact Hp
    isplitr; · iempintro
    iexact Hr
  hexit := fun c => by
    have hjoin := Pipeline.unscopedBufs_of_arrays (p := 0) pcfgs adm (Ix := Unit) (Name := ℕ) (U := UR nD τ) (Lvl := ℕ)
      (kitP (F := F)).win (kitP (F := F)).arr_whole c (dats m) (share_full m c)
      (fun b => V1 m c (Proc.devRef .tc b)) (fun b => V2 m c (Proc.devRef .tc b)) ((dats m 0 c).arrAt · (cfg0 (F := F)).N)
      (fun w => (Pipeline.afterRegion_arr (dats m 0 c) (V1 m c) (launch0 (F := F)).win.arr_inj w).symm)
      (fun b hb => Pipeline.afterRegion_of_not_arr (dats m 0 c) (V1 m c)
        fun w h => hb (h ▸ Finset.mem_image.mpr ⟨w, Finset.mem_univ _, rfl⟩))
    rw [show StableHlo.held (c.tc : Thread nD τ) (Pipeline.ucRefs τ sig) (V2 m c) = unscopedBufs c (fun b => V2 m c (Proc.devRef .tc b))
        from (Pipeline.unscopedBufs_held (Ix := Unit) (Name := ℕ) (U := UR nD τ) (Lvl := ℕ) c (V2 m c)).symm]
    unfold R1
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The launch tokens of the pipeline's cells. -/
def tok0 : UR nD τ := initOf (Pipeline.cells (Pipeline.pin (pcfgs (F := F)) adm) ((kitP (F := F)).cellOf_inj adm))
      (Pipeline.launchToks (Pipeline.pin (pcfgs (F := F)) adm) ((kitP (F := F)).cellOf_inj adm))

set_option backward.isDefEq.respectTransparency.types false in
/-- Every execution of @main terminates, with each buffer outside the region's staging at its value and every semaphore at
    zero. -/
theorem run_main : θ_run defs (onTc (τ := τ) (main (F := F))) ⟨m, fun _ => 0, ρ⟩
    (fun r => (∀ (c : Dev nD) (b : Ref sig .tc), b.isScoped = false →
      r.2.mem ((c.tc : Thread nD τ).loc b) = V3 m c (Proc.devRef .tc b)) ∧ r.2.sem = fun _ => 0) := by
  refine Pipeline.θ_run_regions_kit_sems (pcfgs (F := F)) adm (dats m) () ((kitP (F := F)).cellOf_inj adm) emb₁ defs₀ 𝒱₀ L0 lv0 m ρ main
    [.host (seg0 m ρ), .region (reg0 m ρ), .host (seg1 m)]
    (fun c Q => by rw [main_segs adm (dats m) () 𝒱₀ L0 lv0 (seg0 m ρ) (seg1 m) (reg0 m ρ) rfl rfl c])
    (by simp only [Pipeline.Seg.pipes_host, Pipeline.Seg.pipes_region, Pipeline.Seg.pipes_nil]; exact List.nodup_singleton _)
    (O₀ := 0) (hL := fun _ _ => rfl)
    (G := fun _ => iprop(emp))
    (u₀ := tok0 (F := F))
    (hu₀ := by
      iintro Hu; imodintro
      isplitl [Hu]
      · iapply (show (ownU (tok0 (F := F)) : sProp 𝕄) ⊢ BI.own (emb₁ (tok0 (F := F))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (StableHlo.launchContents m c) ∗ R0 ρ c))
    (Tₙ := fun c => StableHlo.held (c.tc : Thread nD τ) (Pipeline.ucRefs τ sig) (V3 m c))
    (hch := ⟨fun _ => .rfl, fun _ => .rfl, fun _ => .rfl, fun c =>
      (show iprop(StableHlo.held (c.tc : Thread nD τ) (Pipeline.ucRefs τ sig) (V3 m c)
          ∗ (∃ r, prngReg c r) ∗ ∃ W, owes (c.tc : Thread nD τ) (0 : CellTallies nD τ sig Unit) W) ⊢ (_ : sProp 𝕄) from by
        iintro ⟨Hh, -, HO⟩
        isplitl [Hh] <;> iassumption)⟩)
    (hinit := by
      refine Pipeline.initEach L0 lv0 fun c => ?_
      rw [show unscopedBufs c (fun b => m ((c.tc : Thread nD τ).loc b))
            = StableHlo.held (c.tc : Thread nD τ) (Pipeline.ucRefs τ sig) (StableHlo.launchContents m c)
          from Pipeline.unscopedBufs_held (Ix := Unit) (Name := ℕ) (U := UR nD τ) (Lvl := ℕ) c (StableHlo.launchContents m c)]
      unfold R0
      iintro ⟨⟨Hh, -, HO, -, Hp, -⟩, -⟩
      imodintro
      isplitl [Hh]; · iexact Hh
      isplitl [Hp] <;> iassumption)
    (QY := fun c s => ∀ b ∈ Pipeline.ucRefs τ sig, s.mem ((c.tc : Thread nD τ).1, b) = V3 m c b)
    (hfin := fun c s' => by
      unfold StableHlo.held
      iintro ⟨Hh, HSI⟩
      ihave Hr := (pointsTo_read_all (Pipeline.ucRefs τ sig) (fun b => ((c.tc : Thread nD τ).1, b)) (V3 m c) s') $$ [Hh HSI]
      · isplitl [Hh] <;> iassumption
      imodintro; iexact Hr)
    (hQ := fun _ h hs => ⟨fun c b hb => h c (Proc.devRef .tc b) (Pipeline.devRef_mem_ucRefs hb),
      sem_eq_zero_of_scoped (by decide) hs⟩)

/-- The first argument is as it was. -/
theorem V3_arg0 (c : Dev nD) : V3 m c (Proc.devRef .tc main_arg0) = m ((c.tc : Thread nD τ).loc main_arg0) := by
  unfold V3 V2 V1
  after_region_results
  erw [Pipeline.afterRegion_arr (dats m 0 c) _ (launch0 (F := F)).win.arr_inj 1]
  rw [(dats m 0 c).arrAt_in 1 rfl]
  show StableHlo.after hostOps0 (StableHlo.launchContents m c) (Proc.devRef .tc main_arg0) = _
  after_results

/-- The second argument is as it was. -/
theorem V3_arg1 (c : Dev nD) : V3 m c (Proc.devRef .tc main_arg1) = m ((c.tc : Thread nD τ).loc main_arg1) := by
  unfold V3 V2
  rw [StableHlo.after_cons, StableHlo.after_nil, StableHlo.reshape_result_ne _ _ _ _ _ _ _ (by decide)]
  rw [Pipeline.afterRegion_of_not_arr]; rotate_left; · exact (by decide : ∀ w : Fin 3, main_arg1 ≠ Pipeline.arrRef spec0 w)
  unfold V1
  after_results

/-- The run with both arguments kept. -/
theorem run_frame : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨(h.1 c main_arg0 rfl).trans (V3_arg0 m c), (h.1 c main_arg1 rfl).trans (V3_arg1 m c)⟩, h.2⟩)
    (run_main m ρ)

end Cert.Proof

end
-- ==== Proof.Frames.lean ====
/-
  The frames and the named constant. The kernel's body carries its loop's closure as a record of its own, so the kernel and
  its idealization are programs over different label types and each has its run (`Run.lean`, `KRun.lean`).
-/
module

public import proofs.«01_k».proof.Defs
public import proofs.«01_k».proof.Proof.Run
public import proofs.«01_k».proof.Proof.KRun
public import proofs.«01_k».proof.Proof.Gen.ReferenceIdeal.Run
public import Idealize.ShloMosaic.Lib.Quiescent

@[expose] public section

set_option maxRecDepth 16384

noncomputable section

namespace Cert.Proof

open Idealize.ShloMosaic Idealize.ShloMosaic.TcCoe Idealize.SL.Sem

theorem frame_ki : Cert.quiescent_KernelIdeal := fun m ρ _ => run_frame (F := Ideal) m ρ

theorem frame_k : Cert.quiescent_Kernel := fun m ρ _ => K.run_frame (F := Bits) m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "delta_over_k" .f32 0x3951ECD5#32 ((13421773 / 67041755136 : ℝ) : EReal) rfl

end Cert.Proof

end
-- ==== Proof.Cols.lean ====
/-
  Sums over the 100000 columns as the kernel takes them: 97 chunks of 1024 columns kept in 1024 lanes, the lanes folded to
  128 and added up, and the last 672 columns apart.
-/
module

public import Idealize.ShloMosaic.PureOps.Ideal

@[expose] public section

noncomputable section

namespace Cert.Proof

open Finset

theorem sum_blocks {M : Type*} [AddCommMonoid M] (n : ℕ) (a : ℕ → M) :
    ∀ m, ∑ i ∈ range m, ∑ k ∈ range n, a (n * i + k) = ∑ j ∈ range (n * m), a j
  | 0 => by simp
  | m + 1 => by rw [sum_range_succ, sum_blocks n a m, Nat.mul_succ, sum_range_add]

/-- A lane's share of the full chunks. -/
def lane {M : Type*} [AddCommMonoid M] (a : ℕ → M) (l : ℕ) : M := ∑ n ∈ range 97, a (1024 * n + l)

/-- Eight lanes folded into one, as the kernel pairs them. -/
def eight {M : Type*} [Add M] (L : ℕ → M) (q : ℕ) : M :=
  ((L (0 + q) + L (128 + q)) + (L (256 + q) + L (384 + q))) + ((L (512 + q) + L (640 + q)) + (L (768 + q) + L (896 + q)))

theorem sum_lanes {M : Type*} [AddCommMonoid M] (L : ℕ → M) :
    ∑ q ∈ range 128, eight L q = ∑ l ∈ range 1024, L l := by
  have h := sum_blocks 128 L 8
  rw [sum_comm] at h
  refine Eq.trans (sum_congr rfl fun q _ => ?_) h
  simp only [sum_range_succ, range_zero, sum_empty, zero_add]
  unfold eight
  simp only [add_assoc, mul_zero, mul_one, Nat.reduceMul]

theorem sum_cols {M : Type*} [AddCommMonoid M] (a : ℕ → M) :
    ∑ q ∈ range 128, eight (lane a) q + ∑ l ∈ range 672, a (99328 + l) = ∑ j ∈ range 100000, a j := by
  have h1 := sum_blocks 1024 a 97
  have e1 : 1024 * 97 = 99328 := by norm_num
  have e2 : 100000 = 99328 + 672 := by norm_num
  rw [sum_comm, e1] at h1
  rw [e2, sum_range_add, ← h1, sum_lanes]
  rfl

end Cert.Proof

end
-- ==== Proof.F32.lean ====
/-
  The order of the float words. A nonnegative word `q` denotes `mag q` times 2⁻¹⁴⁹, and `mag` is monotone and meets every
  number of at most 24 bits times a power of two. `key b` is the float whose place in the order is the unsigned word `b`:
  monotone up to the place of plus infinity, and every finite float has a place below that.
-/
module

public import Idealize.ShloMosaic.PureOps.Ideal

@[expose] public section

set_option maxRecDepth 16384

noncomputable section

namespace Cert.Proof

open Idealize.ShloMosaic

/-- The whole number whose 2⁻¹⁴⁹-multiple the nonnegative finite word `q` denotes. -/
def mag (q : ℕ) : ℕ := if q / 8388608 = 0 then q % 8388608 else (8388608 + q % 8388608) * 2 ^ (q / 8388608 - 1)

theorem mag_mono : Monotone mag := by
  refine monotone_nat_of_le_succ fun q => ?_
  unfold mag
  by_cases hr : q % 8388608 + 1 < 8388608
  · rw [show (q + 1) / 8388608 = q / 8388608 by omega, show (q + 1) % 8388608 = q % 8388608 + 1 by omega]
    split
    · omega
    · exact Nat.mul_le_mul_right _ (by omega)
  · rw [show (q + 1) / 8388608 = q / 8388608 + 1 by omega, show (q + 1) % 8388608 = 0 by omega, if_neg (Nat.succ_ne_zero _)]
    split
    · rename_i h; rw [h]; norm_num; omega
    · obtain ⟨f, hf⟩ : ∃ f, q / 8388608 = f + 1 := ⟨q / 8388608 - 1, by omega⟩
      rw [hf, Nat.add_sub_cancel, Nat.add_sub_cancel, pow_succ, add_zero]
      have hm : q % 8388608 < 8388608 := Nat.mod_lt _ (by norm_num)
      calc (8388608 + q % 8388608) * 2 ^ f ≤ (2 * 8388608) * 2 ^ f := Nat.mul_le_mul_right _ (by omega)
        _ = _ := by ring

theorem mag_exists : ∀ (k n : ℕ), n < 16777216 → k ≤ 253 → ∃ q, q < 255 * 8388608 ∧ mag q = n * 2 ^ k
  | 0, n, hn, _ => by
    refine ⟨n, by omega, ?_⟩
    unfold mag
    split
    · omega
    · rw [show n / 8388608 = 1 by omega]; simp; omega
  | k + 1, n, hn, hk => by
    by_cases h : n < 8388608
    · obtain ⟨q, hq, hm⟩ := mag_exists k (2 * n) (by omega) (by omega)
      exact ⟨q, hq, by rw [hm, pow_succ]; ring⟩
    · refine ⟨(k + 2) * 8388608 + (n - 8388608), by omega, ?_⟩
      unfold mag
      rw [show ((k + 2) * 8388608 + (n - 8388608)) / 8388608 = k + 2 by omega,
        show ((k + 2) * 8388608 + (n - 8388608)) % 8388608 = n - 8388608 by omega, if_neg (by omega : ¬ k + 2 = 0)]
      rw [show 8388608 + (n - 8388608) = n by omega, show k + 2 - 1 = k + 1 by omega]

/-- The unit in the last place of the smallest floats. -/
abbrev ulp : ℝ := (2 : ℝ) ^ (-149 : ℤ)

theorem ulp_pos : 0 < ulp := by unfold ulp; positivity

theorem ieee_parts (w : BitVec 32) : (w.extractLsb' 23 8).toNat = w.toNat / 8388608 % 256
    ∧ (w.extractLsb' 0 23).toNat = w.toNat % 8388608 ∧ ((w.extractLsb' 31 1 == 1#1) = decide (2147483648 ≤ w.toNat)) := by
  refine ⟨?_, ?_, ?_⟩
  · rw [BitVec.extractLsb'_toNat, Nat.shiftRight_eq_div_pow]
  · rw [BitVec.extractLsb'_toNat, Nat.shiftRight_eq_div_pow, Nat.pow_zero, Nat.div_one]
  · have hw := w.isLt
    have h1 : (w.extractLsb' 31 1).toNat = w.toNat / 2147483648 := by
      rw [BitVec.extractLsb'_toNat, Nat.shiftRight_eq_div_pow]
      show w.toNat / 2147483648 % 2 = _
      omega
    by_cases h : 2147483648 ≤ w.toNat
    · rw [decide_eq_true h, beq_iff_eq]
      apply BitVec.eq_of_toNat_eq; rw [h1]; show _ = 1; omega
    · rw [decide_eq_false h, beq_eq_false_iff_ne]
      intro h2; rw [h2] at h1; have : (1#1).toNat = 1 := rfl; omega

theorem mag_zpow (q : ℕ) (h0 : q / 8388608 ≠ 0) :
    ((8388608 + q % 8388608 : ℕ) : ℝ) * (2 : ℝ) ^ (((q / 8388608 : ℕ) : ℤ) - 127 - 23) = (mag q : ℝ) * ulp := by
  unfold mag ulp
  rw [if_neg h0]
  push_cast
  rw [mul_assoc, ← zpow_natCast, ← zpow_add₀ (by norm_num : (2 : ℝ) ≠ 0)]
  congr 2
  have : 1 ≤ q / 8388608 := by omega
  push_cast [Nat.cast_sub this]
  ring

theorem ofBits_nonneg (w : BitVec 32) (h : w.toNat < 255 * 8388608) :
    Ideal.ofBits .f32 w = (((mag w.toNat : ℝ) * ulp : ℝ) : EReal) := by
  obtain ⟨h1, h2, h3⟩ := ieee_parts w
  show Ideal.ieee 8 23 w = _
  unfold Ideal.ieee
  simp only [show (8 : ℕ) + 23 = 31 from rfl, h1, h2, h3, decide_eq_false (show ¬ 2147483648 ≤ w.toNat by omega)]
  rw [Nat.mod_eq_of_lt (show w.toNat / 8388608 < 256 by omega), if_neg (show ¬ w.toNat / 8388608 = 2 ^ 8 - 1 by omega)]
  split
  · rename_i h0
    congr 1
    unfold mag ulp
    rw [if_pos h0, Nat.cast_ofNat]
    norm_num
  · rename_i h0
    congr 1
    rw [← mag_zpow _ h0]; norm_num

theorem ofBits_neg (w : BitVec 32) (h0 : 2147483648 ≤ w.toNat) (h : w.toNat < 2147483648 + 255 * 8388608) :
    Ideal.ofBits .f32 w = ((-((mag (w.toNat - 2147483648) : ℝ) * ulp) : ℝ) : EReal) := by
  obtain ⟨h1, h2, h3⟩ := ieee_parts w
  obtain ⟨q, hq⟩ : ∃ q, w.toNat - 2147483648 = q := ⟨_, rfl⟩
  show Ideal.ieee 8 23 w = _
  unfold Ideal.ieee
  simp only [show (8 : ℕ) + 23 = 31 from rfl, h1, h2, h3, decide_eq_true h0]
  rw [show w.toNat / 8388608 % 256 = q / 8388608 by omega, show w.toNat % 8388608 = q % 8388608 by omega,
    if_neg (show ¬ q / 8388608 = 2 ^ 8 - 1 by omega), hq]
  clear hq h3 h2 h1 h h0
  have hm := mag_zpow q
  by_cases h0 : q / 8388608 = 0
  · rw [if_pos h0]
    unfold mag ulp
    rw [if_pos h0]
    norm_num
  · rw [if_neg h0, ← hm h0, EReal.coe_eq_coe_iff, if_pos trivial, neg_one_mul, neg_mul]
    norm_num

theorem ofBits_bot (w : BitVec 32) (h : 2147483648 + 255 * 8388608 ≤ w.toNat) : Ideal.ofBits .f32 w = ⊥ := by
  obtain ⟨h1, h2, h3⟩ := ieee_parts w
  have hw := w.isLt
  show Ideal.ieee 8 23 w = _
  unfold Ideal.ieee
  simp only [show (8 : ℕ) + 23 = 31 from rfl, h1, h2, h3, decide_eq_true (show 2147483648 ≤ w.toNat by omega)]
  rw [show w.toNat / 8388608 % 256 = 255 by omega, if_pos (by norm_num)]
  split <;> rfl

theorem ofBits_inf : Ideal.ofBits .f32 0x7F800000#32 = ⊤ := by simp [Ideal.ofBits, Ideal.ieee]

/-- The word of the float whose place in the order is `b`. -/
def fromKey (b : BitVec 32) : BitVec 32 :=
  if IntOp.cmpi .sge (b ^^^ 2147483648#32) 0#32 = 1#1 then b ^^^ 2147483648#32
  else ((b ^^^ 2147483648#32) ^^^ 2147483648#32) ^^^ 4294967295#32

theorem flip_toNat (b : BitVec 32) : (b ^^^ 2147483648#32).toNat = if 2147483648 ≤ b.toNat then b.toNat - 2147483648 else b.toNat + 2147483648 := by
  have hb := b.isLt
  have h1 : (b.toNat ^^^ 2147483648) / 2 ^ 31 = b.toNat / 2 ^ 31 ^^^ 1 := by rw [Nat.xor_div_two_pow]
  have h2 : (b.toNat ^^^ 2147483648) % 2 ^ 31 = b.toNat % 2 ^ 31 := by rw [Nat.xor_mod_two_pow]; exact Nat.xor_zero _
  rw [BitVec.toNat_xor]
  show b.toNat ^^^ 2147483648 = _
  split
  · rw [show b.toNat / 2 ^ 31 = 1 by omega] at h1
    have : 1 ^^^ 1 = 0 := rfl
    omega
  · rw [show b.toNat / 2 ^ 31 = 0 by omega] at h1
    have : 0 ^^^ 1 = 1 := rfl
    omega

theorem fromKey_hi (b : BitVec 32) (h : 2147483648 ≤ b.toNat) : (fromKey b).toNat = b.toNat - 2147483648 := by
  have hf := flip_toNat b
  have hb := b.isLt
  rw [if_pos h] at hf
  have hs : IntOp.cmpi .sge (b ^^^ 2147483648#32) 0#32 = 1#1 := by
    show BitVec.ofBool ((0#32).sle (b ^^^ 2147483648#32)) = 1#1
    rw [BitVec.sle_eq_decide, decide_eq_true]; · rfl
    rw [BitVec.toInt_eq_toNat_of_lt (x := b ^^^ 2147483648#32) (by rw [hf]; omega), hf, BitVec.toInt_zero]; exact Int.natCast_nonneg _
  unfold fromKey
  rw [if_pos hs, hf]

theorem fromKey_lo (b : BitVec 32) (h : b.toNat < 2147483648) : (fromKey b).toNat = 4294967295 - b.toNat := by
  have hf := flip_toNat b
  have hb := b.isLt
  rw [if_neg (by omega)] at hf
  have hs : ¬ IntOp.cmpi .sge (b ^^^ 2147483648#32) 0#32 = 1#1 := by
    show ¬ BitVec.ofBool ((0#32).sle (b ^^^ 2147483648#32)) = 1#1
    rw [BitVec.sle_eq_decide, decide_eq_false]; · decide
    rw [BitVec.toInt_eq_toNat_cond (x := b ^^^ 2147483648#32), if_neg (by rw [hf]; omega), hf, BitVec.toInt_zero]; omega
  unfold fromKey
  rw [if_neg hs, BitVec.xor_assoc b, BitVec.xor_self, BitVec.xor_zero,
    show (4294967295#32) = BitVec.allOnes 32 from rfl, BitVec.xor_allOnes, BitVec.toNat_not]

/-- The float whose place in the order of floats is the unsigned word `b`. -/
def key (b : BitVec 32) : EReal := Ideal.ofBits .f32 (fromKey b)

theorem key_hi (b : BitVec 32) (h : 2147483648 ≤ b.toNat) (h2 : b.toNat < 4286578688) :
    key b = (((mag (b.toNat - 2147483648) : ℝ) * ulp : ℝ) : EReal) := by
  unfold key
  rw [ofBits_nonneg _ (by rw [fromKey_hi b h]; omega), fromKey_hi b h]

theorem key_top (b : BitVec 32) (h : b.toNat = 4286578688) : key b = ⊤ := by
  have : fromKey b = 0x7F800000#32 := by
    apply BitVec.eq_of_toNat_eq; rw [fromKey_hi b (by omega), h]; rfl
  unfold key
  rw [this, ofBits_inf]

theorem key_lo (b : BitVec 32) (h : b.toNat < 2147483648) (h2 : 8388608 ≤ b.toNat) :
    key b = ((-((mag (2147483647 - b.toNat) : ℝ) * ulp) : ℝ) : EReal) := by
  unfold key
  rw [ofBits_neg _ (by rw [fromKey_lo b h]; omega) (by rw [fromKey_lo b h]; omega), fromKey_lo b h,
    show 4294967295 - b.toNat - 2147483648 = 2147483647 - b.toNat by omega]

theorem key_bot (b : BitVec 32) (h : b.toNat < 8388608) : key b = ⊥ := by
  unfold key
  exact ofBits_bot _ (by rw [fromKey_lo b (by omega)]; omega)

/-- The order of the places is the order of the floats, up to the place of plus infinity. -/
theorem key_mono (a b : BitVec 32) (h : a.toNat ≤ b.toNat) (hb : b.toNat ≤ 4286578688) : key a ≤ key b := by
  have hu := ulp_pos
  rcases Nat.lt_or_ge a.toNat 8388608 with ha | ha
  · rw [key_bot a ha]; exact bot_le
  rcases Nat.lt_or_ge b.toNat 4286578688 with hb' | hb'
  swap
  · rw [key_top b (by omega)]; exact le_top
  rcases Nat.lt_or_ge a.toNat 2147483648 with ha1 | ha1
  · rw [key_lo a ha1 ha]
    rcases Nat.lt_or_ge b.toNat 2147483648 with hb1 | hb1
    · rw [key_lo b hb1 (by omega), EReal.coe_le_coe_iff, neg_le_neg_iff]
      have hm : mag (2147483647 - b.toNat) ≤ mag (2147483647 - a.toNat) := mag_mono (Nat.sub_le_sub_left h _)
      exact mul_le_mul_of_nonneg_right (Nat.cast_le.2 hm) hu.le
    · rw [key_hi b hb1 hb', EReal.coe_le_coe_iff]
      have h1 : (0:ℝ) ≤ (mag (2147483647 - a.toNat) : ℝ) * ulp := mul_nonneg (Nat.cast_nonneg _) hu.le
      have h2 : (0:ℝ) ≤ (mag (b.toNat - 2147483648) : ℝ) * ulp := mul_nonneg (Nat.cast_nonneg _) hu.le
      linarith
  · rw [key_hi a ha1 (by omega), key_hi b (by omega) hb', EReal.coe_le_coe_iff]
    have hm : mag (a.toNat - 2147483648) ≤ mag (b.toNat - 2147483648) := mag_mono (Nat.sub_le_sub_right h _)
    exact mul_le_mul_of_nonneg_right (Nat.cast_le.2 hm) hu.le

/-- Every number of at most 24 bits times a power of two in range is a float, so it has a place below plus infinity. -/
theorem key_exists (n k : ℕ) (neg : Bool) (hn : n < 16777216) (hk : k ≤ 253) :
    ∃ b : BitVec 32, b.toNat < 4286578688 ∧ key b = (((if neg then -1 else 1) * ((n : ℝ) * 2 ^ k) * ulp : ℝ) : EReal) := by
  obtain ⟨q, hq, hm⟩ := mag_exists k n hn hk
  have hr : ((mag q : ℕ) : ℝ) = (n : ℝ) * 2 ^ k := by rw [hm]; push_cast; rfl
  cases neg
  · refine ⟨BitVec.ofNat 32 (2147483648 + q), ?_, ?_⟩
    · rw [BitVec.toNat_ofNat]; omega
    · have h : (BitVec.ofNat 32 (2147483648 + q)).toNat = 2147483648 + q := by rw [BitVec.toNat_ofNat]; omega
      rw [key_hi _ (by omega) (by omega), h, Nat.add_sub_cancel_left, hr]
      simp
  · refine ⟨BitVec.ofNat 32 (2147483647 - q), ?_, ?_⟩
    · rw [BitVec.toNat_ofNat]; omega
    · have h : (BitVec.ofNat 32 (2147483647 - q)).toNat = 2147483647 - q := by rw [BitVec.toNat_ofNat]; omega
      rw [key_lo _ (by omega) (by omega), h, show 2147483647 - (2147483647 - q) = q by omega, hr]
      simp

/-- A float between two neighbouring places is the lower of them. -/
theorem key_gap (x : EReal) (hx : ∃ b : BitVec 32, b.toNat < 4286578688 ∧ key b = x) (p q : BitVec 32)
    (hpq : q.toNat = p.toNat + 1) (hq : q.toNat ≤ 4286578688) (h1 : key p ≤ x) (h2 : x < key q) : x = key p := by
  obtain ⟨b, hb, rfl⟩ := hx
  rcases Nat.lt_or_ge p.toNat b.toNat with h | h
  · exact absurd (key_mono q b (by omega) hb.le) (not_le.2 h2)
  · exact le_antisymm (key_mono b p h (by omega)) h1

end Cert.Proof

end
-- ==== Proof.Rows.lean ====
/-
  The kernel's folds over one block, read at a row: the count, the sum, the maximum and the minimum over the row's 100000
  columns.
-/
module

public import proofs.«01_k».proof.Proof.Run
public import proofs.«01_k».proof.Proof.Cols
public import proofs.«01_k».proof.Proof.F32
public import Idealize.ShloMosaic.PureOps.Ideal.Laws
public import Idealize.ShloMosaic.Lib.WordSum
public import Idealize.ShloMosaic.Lib.IdealHost
public import Idealize.ShloMosaic.Lib.ValueLayout
public import Idealize.ShloMosaic.Lib.ValueLayoutCasts

@[expose] public section

set_option maxRecDepth 16384

noncomputable section

namespace Cert.Proof

open Cert.KernelIdeal Cert.KernelIdeal.Gen Idealize.ShloMosaic Idealize.ShloMosaic.ValueIdx

/-- A row's entry in a column. -/
def ent (x : Vec Ideal S32x100000 .f32) (r : Fin 32) (j : ℕ) : EReal := if h : j < 100000 then x (ix2 r ⟨j, h⟩) else 0

theorem ch_apply (x : Vec Ideal S32x100000 .f32) (n : ℕ) (h : n < 97) (r : Fin 32) (l : Fin 1024) :
    ch (rdV x) n h (ix2 r l) = ent x r (1024 * n + l.val) := by
  unfold ent
  rw [dif_pos (by have := l.isLt; omega)]
  show x _ = x _
  congr 1
  funext a
  match a with
  | ⟨0, _⟩ => exact Fin.ext (by show 0 + 1 * r.val = r.val; omega)
  | ⟨1, _⟩ => exact Fin.ext (by show 1024 * n + 1 * l.val = 1024 * n + l.val; omega)

theorem tl_apply (x : Vec Ideal S32x100000 .f32) (r : Fin 32) (l : Fin 672) :
    tl (rdV x) (ix2 r l) = ent x r (99328 + l.val) := by
  unfold ent
  rw [dif_pos (by have := l.isLt; omega)]
  show x _ = x _
  congr 1
  funext a
  match a with
  | ⟨0, _⟩ => exact Fin.ext (by show 0 + 1 * r.val = r.val; omega)
  | ⟨1, _⟩ => exact Fin.ext (by show 99328 + 1 * l.val = 99328 + l.val; omega)

/-! ## Layout steps -/

theorem bc_apply {α : Type} {b : ℕ} (v : S32x1.Idx → α) (h : S32x1.Broadcasts ⟨2, ![32, b]⟩) (r : Fin 32) (l : Fin b) :
    broadcastTo ⟨2, ![32, b]⟩ v h (ix2 r l) = v (ix2 r 0) :=
  broadcastTo_apply v h _ _ (fun a => match a with
    | ⟨0, _⟩ => by show r.val = if (32 : ℕ) = 1 then 0 else r.val; rw [if_neg (by decide)]
    | ⟨1, _⟩ => by show (0 : ℕ) = if (1 : ℕ) = 1 then 0 else l.val; rw [if_pos rfl])

theorem slice_apply {α : Type} (v : S32x1024.Idx → α) (o : ℕ) (h : S32x1024.Slices ![0, o] S32x128) (r : Fin 32) (q : Fin 128)
    (ho : o + 128 ≤ 1024) :
    extractStridedSlice S32x128 ![0, o] v h (ix2 r q) = v (ix2 r ⟨o + q.val, by have := q.isLt; omega⟩) :=
  extractStridedSlice_apply _ v h _ _ (fun a => match a with
    | ⟨0, _⟩ => by show r.val = 0 + r.val; omega
    | ⟨1, _⟩ => rfl)

theorem col_apply {α : Type} (v : S32.Idx → α) (h : S32.ShapeCasts S32x1) (r : Fin 32) :
    shapeCast S32x1 v h (ix2 r 0) = v (ix1 r) := shapeCast_a_a1_apply v h r 0

theorem lift_eq {b : ℕ} (h : (⟨2, ![32, b]⟩ : Shape).Reduces [1] S32) (r : Fin 32) (k : Fin b) : h.lift (ix1 r) k = ix2 r k := by
  funext a
  match a with
  | ⟨0, _⟩ => rfl
  | ⟨1, _⟩ => rfl

theorem rowSum_apply {b : ℕ} (v : FVec Ideal ⟨2, ![32, b]⟩ .f32) (h : (⟨2, ![32, b]⟩ : Shape).Reduces [1] S32)
    (hφ : FKind.Formats .f32) (hacc : (0x00000000#32 : BitVec 32) = FKind.add.neutral .f32 hφ) (r : Fin 32) :
    multiReduction .add [1] S32 v 0x00000000#32 h hφ hacc (ix1 r) = ∑ k : Fin b, v (ix2 r k) := by
  rw [Ideal.multiReduction_add_single]
  exact Finset.sum_congr rfl fun k _ => congrArg v (lift_eq h r k)

theorem rowMax_apply {b : ℕ} (v : FVec Ideal ⟨2, ![32, b]⟩ .f32) (h : (⟨2, ![32, b]⟩ : Shape).Reduces [1] S32)
    (hφ : FKind.Formats .f32) (hacc : (0xFF800000#32 : BitVec 32) = FKind.maximumf.neutral .f32 hφ) (r : Fin 32) (k : Fin b) :
    v (ix2 r k) ≤ multiReduction .maximumf [1] S32 v 0xFF800000#32 h hφ hacc (ix1 r) := by
  rw [Ideal.multiReduction_maximumf_single]
  exact (Finset.le_fold_max _).2 (Or.inr ⟨k, Finset.mem_univ _, le_of_eq (congrArg v (lift_eq h r k).symm)⟩)

theorem rowMin_apply {b : ℕ} (v : FVec Ideal ⟨2, ![32, b]⟩ .f32) (h : (⟨2, ![32, b]⟩ : Shape).Reduces [1] S32)
    (hφ : FKind.Formats .f32) (hacc : (0x7F800000#32 : BitVec 32) = FKind.minimumf.neutral .f32 hφ) (r : Fin 32) (z : EReal) :
    z ≤ multiReduction .minimumf [1] S32 v 0x7F800000#32 h hφ hacc (ix1 r) ↔ ∀ k : Fin b, z ≤ v (ix2 r k) := by
  rw [multiReduction_minimumf_eq_fold]
  rw [h.fold_filter_drop_single]
  refine (Finset.le_fold_min (s := (Finset.univ : Finset (Fin b))) z).trans ?_
  constructor
  · intro hz k
    exact (hz.2 k (Finset.mem_univ _)).trans (le_of_eq (congrArg v (lift_eq h r k)))
  · intro hz
    refine ⟨le_of_le_of_eq le_top ofBits_inf.symm, fun k _ => (hz k).trans (le_of_eq (congrArg v (lift_eq h r k).symm))⟩

theorem rowCount_apply {b : ℕ} (v : IVec ⟨2, ![32, b]⟩ 32) (h : (⟨2, ![32, b]⟩ : Shape).Reduces [1] S32) (r : Fin 32)
    (hs : ∑ k : Fin b, (v (ix2 r k)).toNat < 2 ^ 32) :
    (multiReductionI .add [1] S32 v 0#32 h rfl (ix1 r)).toNat = ∑ k : Fin b, (v (ix2 r k)).toNat := by
  have e : ∑ i ∈ Finset.univ.filter (fun i => h.drop i = ix1 r), (v i).toNat = ∑ k : Fin b, (v (ix2 r k)).toNat := by
    rw [h.sum_filter_drop_single (fun i => (v i).toNat)]
    exact Finset.sum_congr rfl fun k _ => congrArg (fun i => (v i).toNat) (lift_eq h r k)
  rw [WordSum.toNat_multiReductionI_add v h rfl (ix1 r) (by rw [e]; exact hs), e]

/-! ## Lanes -/

theorem select_ofBool {α : Type} (P : Prop) [Decidable P] (a b : α) :
    Scalar.select (BitVec.ofBool (decide P)) a b = if P then a else b := by
  by_cases h : P
  · rw [if_pos h, decide_eq_true h]; rfl
  · rw [if_neg h, decide_eq_false h]; rfl

/-- One where a proposition holds. -/
abbrev ind (P : Prop) [Decidable P] : ℕ := if P then 1 else 0

open Classical in
/-- How often a row's first `n` chunks satisfy `P` in a lane. -/
def hits (P : ℕ → Prop) (n l : ℕ) : ℕ := ∑ k ∈ Finset.range n, ind (P (1024 * k + l))

theorem hits_le (P : ℕ → Prop) (n l : ℕ) : hits P n l ≤ n := by
  unfold hits
  refine (Finset.sum_le_card_nsmul _ _ 1 fun k _ => ?_).trans (by simp)
  unfold ind; split <;> omega

theorem hits_succ (P : ℕ → Prop) [DecidablePred P] (n l : ℕ) (c : BitVec 32) (hn : n < 97) (hc : c.toNat = hits P n l) :
    (if P (1024 * n + l) then c + 1#32 else c).toNat = hits P (n + 1) l := by
  have hle := hits_le P n l
  have hs : hits P (n + 1) l = hits P n l + ind (P (1024 * n + l)) := by
    unfold hits; rw [Finset.sum_range_succ]; congr!
  rw [hs, ← hc]
  unfold ind
  by_cases h : P (1024 * n + l)
  · rw [if_pos h, if_pos h, BitVec.toNat_add]
    show (c.toNat + 1) % 2 ^ 32 = c.toNat + 1
    rw [← hc] at hle
    omega
  · rw [if_neg h, if_neg h, add_zero]

section
variable (x : Vec Ideal S32x100000 .f32) (th : FVec Ideal S32x1 .f32) (r : Fin 32)

theorem cntF_apply (l : Fin 1024) : ∀ (n : ℕ) (h : n ≤ 97),
    (cntF (rdV x) th n h (ix2 r l)).toNat = hits (fun j => th (ix2 r 0) ≤ ent x r j) n l.val
  | 0, _ => rfl
  | n + 1, h => by
    classical
    have ih := cntF_apply l n (Nat.le_of_succ_le h)
    rw [← hits_succ _ n l.val _ h ih, ← ch_apply x n h r l, ← select_ofBool]
    show BitVec.toNat (Scalar.select (BitVec.ofBool (decide (broadcastTo S32x1024 th broadcasts_S32x1_S32x1024 (ix2 r l) ≤ _))) _ _) = _
    rw [bc_apply th broadcasts_S32x1_S32x1024 r l]
    congr!

theorem cgtF_apply (l : Fin 1024) : ∀ (n : ℕ) (h : n ≤ 97),
    (cgtF (rdV x) th n h (ix2 r l)).toNat = hits (fun j => th (ix2 r 0) < ent x r j) n l.val
  | 0, _ => rfl
  | n + 1, h => by
    classical
    have ih := cgtF_apply l n (Nat.le_of_succ_le h)
    rw [← hits_succ _ n l.val _ h ih, ← ch_apply x n h r l, ← select_ofBool]
    show BitVec.toNat (Scalar.select (BitVec.ofBool (decide (broadcastTo S32x1024 th broadcasts_S32x1_S32x1024 (ix2 r l) < _))) _ _) = _
    rw [bc_apply th broadcasts_S32x1_S32x1024 r l]
    congr!

/-- The square the kernel adds up. -/
def sq (z : EReal) : EReal := (1 + z) * (1 + z)

open Classical in
theorem sgtF_apply (l : Fin 1024) : ∀ (n : ℕ) (h : n ≤ 97), sgtF (rdV x) th n h (ix2 r l)
    = ∑ k ∈ Finset.range n, if th (ix2 r 0) < ent x r (1024 * k + l.val) then sq (ent x r (1024 * k + l.val)) else 0
  | 0, _ => Ideal.ofBits_zero_f32
  | n + 1, h => by
    have ih := sgtF_apply l n (Nat.le_of_succ_le h)
    rw [Finset.sum_range_succ, ← ih, ← ch_apply x n h r l]
    show Scalar.select (BitVec.ofBool (decide (broadcastTo S32x1024 th broadcasts_S32x1_S32x1024 (ix2 r l) < _))) (_ + (Ideal.ofBits .f32 0x3F800000#32 + _) * (Ideal.ofBits .f32 0x3F800000#32 + _)) _ = _
    rw [bc_apply th broadcasts_S32x1_S32x1024 r l, select_ofBool, Ideal.ofBits_one_f32]
    split
    · rfl
    · rw [add_zero]

theorem mxF_apply (l : Fin 1024) : ∀ (n : ℕ) (h : n ≤ 97) (k : ℕ), k < n →
    ent x r (1024 * k + l.val) ≤ mxF (rdV x) n h (ix2 r l)
  | 0, _, k, hk => absurd hk (Nat.not_lt_zero _)
  | n + 1, h, k, hk => by
    show _ ≤ max (mxF (rdV x) n (Nat.le_of_succ_le h) (ix2 r l)) (ch (rdV x) n h (ix2 r l))
    rcases Nat.lt_succ_iff_lt_or_eq.1 hk with hk | rfl
    · exact (mxF_apply l n (Nat.le_of_succ_le h) k hk).trans (le_max_left _ _)
    · rw [ch_apply]; exact le_max_right _ _

open Classical in
theorem mnF_apply (l : Fin 1024) (z : EReal) : ∀ (n : ℕ) (h : n ≤ 97), z ≤ mnF (rdV x) th n h (ix2 r l)
    ↔ ∀ k, k < n → th (ix2 r 0) < ent x r (1024 * k + l.val) → z ≤ ent x r (1024 * k + l.val)
  | 0, _ => ⟨fun _ k hk => absurd hk (Nat.not_lt_zero _), fun _ => le_of_le_of_eq le_top ofBits_inf.symm⟩
  | n + 1, h => by
    have ih := mnF_apply l z n (Nat.le_of_succ_le h)
    have e : mnF (rdV x) th (n + 1) h (ix2 r l) = if th (ix2 r 0) < ent x r (1024 * n + l.val)
        then min (mnF (rdV x) th n (Nat.le_of_succ_le h) (ix2 r l)) (ent x r (1024 * n + l.val))
        else mnF (rdV x) th n (Nat.le_of_succ_le h) (ix2 r l) := by
      rw [← select_ofBool, ← ch_apply x n h r l]
      show Scalar.select (BitVec.ofBool (decide (broadcastTo S32x1024 th broadcasts_S32x1_S32x1024 (ix2 r l) < _))) _ _ = _
      rw [bc_apply th broadcasts_S32x1_S32x1024 r l]
      rfl
    rw [e]
    constructor
    · intro hz k hk hlt
      rcases Nat.lt_succ_iff_lt_or_eq.1 hk with hk | rfl
      · refine ih.1 ?_ k hk hlt
        split at hz
        · exact hz.trans (min_le_left _ _)
        · exact hz
      · rw [if_pos hlt] at hz
        exact hz.trans (min_le_right _ _)
    · intro hz
      have h1 := ih.2 fun k hk => hz k (Nat.lt_succ_of_lt hk)
      split
      · exact le_min h1 (hz n (Nat.lt_succ_self n) ‹_›)
      · exact h1

/-- The column of a chunk is the target's when the chunk's start and the lane add up to it. -/
theorem col_eq (t : BitVec 32) (ht : t.toNat < 100000) (o l : ℕ) (ho : o < 100000) (hl : l < 1024) :
    (BitVec.ofNat 32 l = t - BitVec.ofNat 32 o) ↔ o + l = t.toNat := by
  rw [← BitVec.toNat_inj, BitVec.toNat_ofNat, BitVec.toNat_sub, BitVec.toNat_ofNat]
  omega

open Classical in
theorem posF_apply (v1 : IVec S32x1 32) (ht : (v1 (ix2 r 0)).toNat < 100000) (l : Fin 1024) : ∀ (n : ℕ) (h : n ≤ 97),
    posF (rdV x) v1 n h (ix2 r l)
      = ∑ k ∈ Finset.range n, if 1024 * k + l.val = (v1 (ix2 r 0)).toNat then ent x r (1024 * k + l.val) else 0
  | 0, _ => Ideal.ofBits_zero_f32
  | n + 1, h => by
    have ih := posF_apply v1 ht l n (Nat.le_of_succ_le h)
    rw [Finset.sum_range_succ, ← ih, ← ch_apply x n h r l]
    have hb := bc_apply (subi v1 (broadcast S32x1 (BitVec.ofNat 32 (1024 * n)))) broadcasts_S32x1_S32x1024 r l
    show Scalar.select (BitVec.ofBool (BitVec.ofNat 32 (0 * 1024 + l.val) == broadcastTo S32x1024 (subi v1 (broadcast S32x1 (BitVec.ofNat 32 (1024 * n)))) broadcasts_S32x1_S32x1024 (ix2 r l))) (_ + _) _ = _
    rw [hb, zero_mul, zero_add]
    have hc := col_eq (v1 (ix2 r 0)) ht (1024 * n) l.val (by omega) l.isLt
    show Scalar.select (BitVec.ofBool (BitVec.ofNat 32 l.val == v1 (ix2 r 0) - BitVec.ofNat 32 (1024 * n))) _ _ = _
    rw [show (BitVec.ofNat 32 l.val == v1 (ix2 r 0) - BitVec.ofNat 32 (1024 * n)) = decide (1024 * n + l.val = (v1 (ix2 r 0)).toNat) by
      rw [← decide_eq_decide.2 hc]; exact (Bool.beq_eq_decide_eq _ _), select_ofBool]
    split
    · rfl
    · rw [add_zero]

end

end Cert.Proof

end
-- ==== Proof.RowVals.lean ====
/-
  The quantities the kernel's body computes for a row, as sums, bounds and minima over the row's 100000 columns.
-/
module

public import proofs.«01_k».proof.Proof.Rows

@[expose] public section

set_option maxRecDepth 16384

noncomputable section

namespace Cert.Proof

open Cert.KernelIdeal Cert.KernelIdeal.Gen Idealize.ShloMosaic Idealize.ShloMosaic.ValueIdx

/-- Eight values paired up as the kernel pairs its lanes. -/
def tree {α : Type*} (op : α → α → α) (L : ℕ → α) (q : ℕ) : α :=
  op (op (op (L (0 + q)) (L (128 + q))) (op (L (256 + q)) (L (384 + q))))
    (op (op (L (512 + q)) (L (640 + q))) (op (L (768 + q)) (L (896 + q))))

/-- A 1024-lane vector folded to 128 lanes. -/
def fold8 {α : Type} (op : α → α → α) (v : S32x1024.Idx → α) : S32x128.Idx → α := fun i =>
  op (op (op (extractStridedSlice S32x128 ![0, 0] v slices_S32x1024_o0_0_S32x128 i)
        (extractStridedSlice S32x128 ![0, 128] v slices_S32x1024_o0_128_S32x128 i))
      (op (extractStridedSlice S32x128 ![0, 256] v slices_S32x1024_o0_256_S32x128 i)
        (extractStridedSlice S32x128 ![0, 384] v slices_S32x1024_o0_384_S32x128 i)))
    (op (op (extractStridedSlice S32x128 ![0, 512] v slices_S32x1024_o0_512_S32x128 i)
        (extractStridedSlice S32x128 ![0, 640] v slices_S32x1024_o0_640_S32x128 i))
      (op (extractStridedSlice S32x128 ![0, 768] v slices_S32x1024_o0_768_S32x128 i)
        (extractStridedSlice S32x128 ![0, 896] v slices_S32x1024_o0_896_S32x128 i)))

theorem fold8_apply {α : Type} (op : α → α → α) (v : S32x1024.Idx → α) (r : Fin 32) (L : ℕ → α)
    (hv : ∀ l : Fin 1024, v (ix2 r l) = L l.val) (q : Fin 128) : fold8 op v (ix2 r q) = tree op L q.val := by
  unfold fold8 tree
  rw [slice_apply v 0 _ r q (by decide), slice_apply v 128 _ r q (by decide), slice_apply v 256 _ r q (by decide),
    slice_apply v 384 _ r q (by decide), slice_apply v 512 _ r q (by decide), slice_apply v 640 _ r q (by decide),
    slice_apply v 768 _ r q (by decide), slice_apply v 896 _ r q (by decide)]
  simp only [hv]

theorem fold8_toNat (v : IVec S32x1024 32) (r : Fin 32) (L : ℕ → ℕ) (hv : ∀ l : Fin 1024, (v (ix2 r l)).toNat = L l.val)
    (hL : ∀ l, L l ≤ 97) (q : Fin 128) : (fold8 (fun a b => a + b) v (ix2 r q)).toNat = eight L q.val ∧ eight L q.val ≤ 776 := by
  have hq := q.isLt
  rw [fold8_apply _ v r (fun l => if h : l < 1024 then v (ix2 r ⟨l, h⟩) else 0#32) (fun l => by rw [dif_pos l.isLt]) q]
  have hv' : ∀ l (h : l < 1024), (v (ix2 r ⟨l, h⟩)).toNat = L l := fun l h => hv ⟨l, h⟩
  have h0 := hL (0 + q.val); have h1 := hL (128 + q.val); have h2 := hL (256 + q.val); have h3 := hL (384 + q.val)
  have h4 := hL (512 + q.val); have h5 := hL (640 + q.val); have h6 := hL (768 + q.val); have h7 := hL (896 + q.val)
  unfold tree eight
  beta_reduce
  rw [dif_pos (by omega), dif_pos (by omega), dif_pos (by omega), dif_pos (by omega), dif_pos (by omega), dif_pos (by omega),
    dif_pos (by omega), dif_pos (by omega)]
  simp only [BitVec.toNat_add, hv']
  omega

theorem hits_lane (P : ℕ → Prop) (l : ℕ) : hits P 97 l = lane (fun j => @ind (P j) (Classical.dec _)) l := rfl

/-- How many of the 100000 columns satisfy `P`. -/
def colCount (P : ℕ → Prop) : ℕ := ∑ j ∈ Finset.range 100000, @ind (P j) (Classical.dec _)

theorem colCount_le (P : ℕ → Prop) : colCount P ≤ 100000 := by
  unfold colCount
  refine (Finset.sum_le_card_nsmul _ _ 1 fun k _ => ?_).trans (by simp)
  unfold ind; split <;> omega

/-- The counts of the lanes and of the tail add up to the count over the columns. -/
theorem count_row (v : IVec S32x1024 32) (w : IVec S32x672 32) (r : Fin 32) (P : ℕ → Prop)
    (hv : ∀ l : Fin 1024, (v (ix2 r l)).toNat = hits P 97 l.val)
    (hw : ∀ l : Fin 672, (w (ix2 r l)).toNat = @ind (P (99328 + l.val)) (Classical.dec _)) :
    (multiReductionI .add [1] S32 (fold8 (fun a b => a + b) v) 0#32 reduces_S32x128_S32 rfl (ix1 r)
      + multiReductionI .add [1] S32 w 0#32 reduces_S32x672_S32 rfl (ix1 r)).toNat = colCount P := by
  have hL : ∀ l, hits P 97 l ≤ 97 := hits_le P 97
  have h1 : ∑ k : Fin 128, (fold8 (fun a b => a + b) v (ix2 r k)).toNat = ∑ q ∈ Finset.range 128, eight (hits P 97) q := by
    rw [Finset.sum_range]
    exact Finset.sum_congr rfl fun k _ => (fold8_toNat v r _ hv hL k).1
  have h2 : ∑ k : Fin 672, (w (ix2 r k)).toNat = ∑ l ∈ Finset.range 672, @ind (P (99328 + l)) (Classical.dec _) := by
    rw [Finset.sum_range]
    exact Finset.sum_congr rfl fun k _ => hw k
  have h3 := sum_cols (fun j => @ind (P j) (Classical.dec _))
  have h4 : eight (hits P 97) = eight (lane fun j => @ind (P j) (Classical.dec _)) := rfl
  have h5 := colCount_le P
  unfold colCount at h5 ⊢
  rw [BitVec.toNat_add, rowCount_apply _ _ r (by rw [h1, h4]; omega), rowCount_apply _ _ r (by rw [h2]; omega), h1, h2, h4]
  omega

theorem sel_nat (P : Prop) (i i' : Decidable P) : (Scalar.select (BitVec.ofBool (@decide P i)) 1#32 0#32 : BitVec 32).toNat = @ind P i' := by
  rw [Subsingleton.elim i' i, select_ofBool]; unfold ind; split <;> rfl

section
variable (x : Vec Ideal S32x100000 .f32) (th : FVec Ideal S32x1 .f32) (r : Fin 32)

theorem cntAll_apply : (cntAll (rdV x) th (ix2 r 0)).toNat = colCount fun j => th (ix2 r 0) ≤ ent x r j := by
  classical
  refine Eq.trans ?_ (count_row (cntF (rdV x) th 97 le_rfl)
    (select (cmpf .oge (tl (rdV x)) (broadcastTo S32x672 th broadcasts_S32x1_S32x672)) (broadcast S32x672 1#32) (broadcast S32x672 0#32))
    r (fun j => th (ix2 r 0) ≤ ent x r j) (fun l => cntF_apply x th r l 97 le_rfl) (fun l => ?_))
  · rw [← col_apply (multiReductionI .add [1] S32 (fold8 _ _) 0#32 reduces_S32x128_S32 rfl) shapeCasts_S32_S32x1 r,
      ← col_apply (multiReductionI .add [1] S32 (select _ _ _) 0#32 reduces_S32x672_S32 rfl) shapeCasts_S32_S32x1 r]
    rfl
  · rw [← tl_apply x r l, ← bc_apply th broadcasts_S32x1_S32x672 r l]
    exact sel_nat _ _ _

/-- The count of the entries above the threshold. -/
abbrev cgtAll : IVec S32x1 32 :=
  k0_pay272 (cgtF (rdV x) th 97 le_rfl) (k0_pay265 (tl (rdV x)) th)
      (extractStridedSlice S32x128 ![0, 0] (cgtF (rdV x) th 97 le_rfl) slices_S32x1024_o0_0_S32x128)
      (extractStridedSlice S32x128 ![0, 128] (cgtF (rdV x) th 97 le_rfl) slices_S32x1024_o0_128_S32x128)
      (extractStridedSlice S32x128 ![0, 256] (cgtF (rdV x) th 97 le_rfl) slices_S32x1024_o0_256_S32x128)
      (extractStridedSlice S32x128 ![0, 384] (cgtF (rdV x) th 97 le_rfl) slices_S32x1024_o0_384_S32x128)
      (extractStridedSlice S32x128 ![0, 512] (cgtF (rdV x) th 97 le_rfl) slices_S32x1024_o0_512_S32x128)
      (extractStridedSlice S32x128 ![0, 640] (cgtF (rdV x) th 97 le_rfl) slices_S32x1024_o0_640_S32x128)

theorem cgtAll_apply : (cgtAll x th (ix2 r 0)).toNat = colCount fun j => th (ix2 r 0) < ent x r j := by
  classical
  refine Eq.trans ?_ (count_row (cgtF (rdV x) th 97 le_rfl)
    (select (cmpf .ogt (tl (rdV x)) (broadcastTo S32x672 th broadcasts_S32x1_S32x672)) (broadcast S32x672 1#32) (broadcast S32x672 0#32))
    r (fun j => th (ix2 r 0) < ent x r j) (fun l => cgtF_apply x th r l 97 le_rfl) (fun l => ?_))
  · rw [← col_apply (multiReductionI .add [1] S32 (fold8 _ _) 0#32 reduces_S32x128_S32 rfl) shapeCasts_S32_S32x1 r,
      ← col_apply (multiReductionI .add [1] S32 (select _ _ _) 0#32 reduces_S32x672_S32 rfl) shapeCasts_S32_S32x1 r]
    rfl
  · rw [← tl_apply x r l, ← bc_apply th broadcasts_S32x1_S32x672 r l]
    exact sel_nat _ _ _

/-- The sums of the lanes and of the tail add up to the sum over the columns. -/
theorem sum_row (v : FVec Ideal S32x1024 .f32) (w : FVec Ideal S32x672 .f32) (r : Fin 32) (a : ℕ → EReal)
    (hv : ∀ l : Fin 1024, v (ix2 r l) = lane a l.val) (hw : ∀ l : Fin 672, w (ix2 r l) = a (99328 + l.val)) :
    addf (shapeCast S32x1 (multiReduction .add [1] S32 (fold8 (fun a b => a + b) v : FVec Ideal S32x128 .f32) 0x00000000#32 reduces_S32x128_S32 (.inl rfl) rfl) shapeCasts_S32_S32x1)
      (shapeCast S32x1 (multiReduction .add [1] S32 w 0x00000000#32 reduces_S32x672_S32 (.inl rfl) rfl) shapeCasts_S32_S32x1) (ix2 r 0)
      = ∑ j ∈ Finset.range 100000, a j := by
  rw [← sum_cols a]
  rw [Finset.sum_range, Finset.sum_range]
  refine congrArg₂ (· + ·) ((col_apply _ _ r).trans ((rowSum_apply _ _ _ _ r).trans ?_))
    ((col_apply _ _ r).trans ((rowSum_apply _ _ _ _ r).trans ?_))
  · exact Finset.sum_congr rfl fun k _ => fold8_apply _ v r _ hv k
  · exact Finset.sum_congr rfl fun k _ => hw k

open Classical in
theorem sgtAll_apply : k0_pay273 (sgtF (rdV x) th 97 le_rfl) (k0_pay264 (tl (rdV x))) (k0_pay265 (tl (rdV x)) th) (ix2 r 0)
    = ∑ j ∈ Finset.range 100000, if th (ix2 r 0) < ent x r j then sq (ent x r j) else 0 := by
  refine Eq.trans ?_ (sum_row (sgtF (rdV x) th 97 le_rfl)
    (select (k0_pay265 (tl (rdV x)) th) (k0_pay264 (tl (rdV x))) (broadcast S32x672 (Scalar.ofBits .f32 0x00000000#32)))
    r _ (fun l => sgtF_apply x th r l 97 le_rfl) (fun l => ?_))
  · rfl
  · rw [← tl_apply x r l, ← bc_apply th broadcasts_S32x1_S32x672 r l, ← select_ofBool]
    show Scalar.select _ ((Ideal.ofBits .f32 0x3F800000#32 + _) * (Ideal.ofBits .f32 0x3F800000#32 + _)) (Ideal.ofBits .f32 0x00000000#32) = _
    rw [Ideal.ofBits_one_f32, Ideal.ofBits_zero_f32]
    rfl

open Classical in
theorem posAll_apply (v1 : IVec S32x1 32) (ht : (v1 (ix2 r 0)).toNat < 100000) :
    k0_pay56 v1 (posF (rdV x) v1 97 le_rfl) (tl (rdV x)) (ix2 r 0) = ent x r (v1 (ix2 r 0)).toNat := by
  have key : k0_pay56 v1 (posF (rdV x) v1 97 le_rfl) (tl (rdV x)) (ix2 r 0)
      = ∑ j ∈ Finset.range 100000, if j = (v1 (ix2 r 0)).toNat then ent x r j else 0 := by
    refine Eq.trans ?_ (sum_row (posF (rdV x) v1 97 le_rfl)
      (select (cmpi .eq (iota .tc S32x672 32 [1] iota_S32x672_d1_w32)
        (broadcastTo S32x672 (subi v1 (broadcast S32x1 99328#32)) broadcasts_S32x1_S32x672)) (tl (rdV x))
        (broadcast S32x672 (Scalar.ofBits .f32 0x00000000#32)))
      r _ (fun l => posF_apply x r v1 ht l 97 le_rfl) (fun l => ?_))
    · rfl
    · have hl := l.isLt
      have hb := bc_apply (subi v1 (broadcast S32x1 99328#32)) broadcasts_S32x1_S32x672 r l
      have hc := col_eq (v1 (ix2 r 0)) ht 99328 l.val (by omega) (by omega)
      show Scalar.select (BitVec.ofBool (BitVec.ofNat 32 (0 * 672 + l.val) == broadcastTo S32x672 (subi v1 (broadcast S32x1 99328#32)) broadcasts_S32x1_S32x672 (ix2 r l))) _ (Ideal.ofBits .f32 0x00000000#32) = _
      rw [hb, zero_mul, zero_add, tl_apply x r l, Ideal.ofBits_zero_f32]
      show Scalar.select (BitVec.ofBool (BitVec.ofNat 32 l.val == v1 (ix2 r 0) - BitVec.ofNat 32 99328)) _ _ = _
      rw [show (BitVec.ofNat 32 l.val == v1 (ix2 r 0) - BitVec.ofNat 32 99328) = decide (99328 + l.val = (v1 (ix2 r 0)).toNat) by
        rw [← decide_eq_decide.2 hc]; exact (Bool.beq_eq_decide_eq _ _), select_ofBool]
  rw [key, Finset.sum_ite_eq', if_pos (Finset.mem_range.2 ht)]

theorem mxAll_le (j : ℕ) (hj : j < 100000) : ent x r j ≤ mxAll (rdV x) (ix2 r 0) := by
  have e : mxAll (rdV x) (ix2 r 0) = max
      (multiReduction .maximumf [1] S32 (fold8 max (mxF (rdV x) 97 le_rfl) : FVec Ideal S32x128 .f32) 0xFF800000#32 reduces_S32x128_S32 (.inl rfl) rfl (ix1 r))
      (multiReduction .maximumf [1] S32 (tl (rdV x)) 0xFF800000#32 reduces_S32x672_S32 (.inl rfl) rfl (ix1 r)) :=
    congrArg₂ max (col_apply _ shapeCasts_S32_S32x1 r) (col_apply _ shapeCasts_S32_S32x1 r)
  rw [e]
  rcases Nat.lt_or_ge j 99328 with h | h
  · refine le_trans ?_ (le_max_left _ _)
    obtain ⟨k, l, hk, hl, rfl⟩ : ∃ k l, k < 97 ∧ l < 1024 ∧ j = 1024 * k + l := ⟨j / 1024, j % 1024, by omega, by omega, by omega⟩
    refine le_trans ?_ (rowMax_apply _ _ _ _ r ⟨l % 128, by omega⟩)
    have h0 := mxF_apply x r ⟨l, hl⟩ 97 le_rfl k hk
    refine h0.trans ?_
    rw [fold8_apply max _ r (fun l => if h : l < 1024 then mxF (rdV x) 97 le_rfl (ix2 r ⟨l, h⟩) else ⊥) (fun l => by rw [dif_pos l.isLt])]
    have hq : l = 128 * (l / 128) + l % 128 := by omega
    have h8 : l / 128 < 8 := by omega
    have hL : mxF (rdV x) 97 le_rfl (ix2 r ⟨l, hl⟩) = (fun l => if h : l < 1024 then mxF (rdV x) 97 le_rfl (ix2 r ⟨l, h⟩) else ⊥) (128 * (l / 128) + l % 128) := by
      rw [← hq]; simp only [dif_pos hl]
    rw [hL]
    generalize (fun l => if h : l < 1024 then mxF (rdV x) 97 le_rfl (ix2 r ⟨l, h⟩) else ⊥) = L
    generalize l / 128 = c at h8
    unfold tree
    interval_cases c <;> simp [le_max_iff]
  · refine le_trans ?_ (le_max_right _ _)
    have := rowMax_apply (tl (rdV x)) reduces_S32x672_S32 (.inl rfl) rfl r ⟨j - 99328, by omega⟩
    rw [tl_apply] at this
    rwa [show 99328 + (j - 99328) = j by omega] at this

/-- The least entry above the threshold. -/
abbrev mnAll : EReal := min
      (multiReduction .minimumf [1] S32 (minimumf (k0_pay274 (mnF (rdV x) th 97 le_rfl)) (k0_pay275 (mnF (rdV x) th 97 le_rfl)) : FVec Ideal S32x128 .f32) 0x7F800000#32 reduces_S32x128_S32 (.inl rfl) rfl (ix1 r))
      (multiReduction .minimumf [1] S32 (select (k0_pay265 (tl (rdV x)) th) (tl (rdV x)) (broadcast S32x672 (Scalar.ofBits (F := Ideal) .f32 0x7F800000#32)) : FVec Ideal S32x672 .f32) 0x7F800000#32 reduces_S32x672_S32 (.inl rfl) rfl (ix1 r))

theorem le_mnAll (z : EReal) : z ≤ mnAll x th r ↔ ∀ j, j < 100000 → th (ix2 r 0) < ent x r j → z ≤ ent x r j := by
  classical
  have e : (minimumf (k0_pay274 (mnF (rdV x) th 97 le_rfl)) (k0_pay275 (mnF (rdV x) th 97 le_rfl)) : FVec Ideal S32x128 .f32)
      = fold8 min (mnF (rdV x) th 97 le_rfl) := rfl
  have hl : ∀ q : Fin 128, z ≤ fold8 min (mnF (rdV x) th 97 le_rfl) (ix2 r q) ↔ ∀ c, c < 8 → ∀ h : 128 * c + q.val < 1024,
      z ≤ mnF (rdV x) th 97 le_rfl (ix2 r ⟨128 * c + q.val, h⟩) := by
    intro q
    have hq := q.isLt
    rw [fold8_apply min _ r (fun l => if h : l < 1024 then mnF (rdV x) th 97 le_rfl (ix2 r ⟨l, h⟩) else ⊥) (fun l => by rw [dif_pos l.isLt])]
    have hL : (∀ c, c < 8 → ∀ h : 128 * c + q.val < 1024, z ≤ mnF (rdV x) th 97 le_rfl (ix2 r ⟨128 * c + q.val, h⟩)) ↔ ∀ c, c < 8 →
        z ≤ (fun l => if h : l < 1024 then mnF (rdV x) th 97 le_rfl (ix2 r ⟨l, h⟩) else ⊥) (128 * c + q.val) := by
      refine forall_congr' fun c => forall_congr' fun hc => ?_
      have hlt : 128 * c + q.val < 1024 := by omega
      simp only [dif_pos hlt]
      exact ⟨fun h => h hlt, fun h _ => h⟩
    rw [hL]
    generalize (fun l => if h : l < 1024 then mnF (rdV x) th 97 le_rfl (ix2 r ⟨l, h⟩) else ⊥) = L
    unfold tree
    simp only [le_min_iff]
    constructor
    · intro h c hc
      interval_cases c <;> simp_all
    · intro h
      exact ⟨⟨⟨h 0 (by omega), h 1 (by omega)⟩, h 2 (by omega), h 3 (by omega)⟩, ⟨h 4 (by omega), h 5 (by omega)⟩, h 6 (by omega), h 7 (by omega)⟩
  have ht : ∀ l : Fin 672, z ≤ select (k0_pay265 (tl (rdV x)) th) (tl (rdV x)) (broadcast S32x672 (Scalar.ofBits (F := Ideal) .f32 0x7F800000#32)) (ix2 r l)
      ↔ (th (ix2 r 0) < ent x r (99328 + l.val) → z ≤ ent x r (99328 + l.val)) := by
    intro l
    have e : select (k0_pay265 (tl (rdV x)) th) (tl (rdV x)) (broadcast S32x672 (Scalar.ofBits (F := Ideal) .f32 0x7F800000#32)) (ix2 r l)
        = if th (ix2 r 0) < ent x r (99328 + l.val) then ent x r (99328 + l.val) else ⊤ := by
      rw [← tl_apply x r l, ← bc_apply th broadcasts_S32x1_S32x672 r l, ← select_ofBool, ← ofBits_inf]
      rfl
    rw [e]
    split
    · rename_i h; exact ⟨fun hz _ => hz, fun hz => hz h⟩
    · rename_i h; exact ⟨fun _ hh => absurd hh h, fun _ => le_top⟩
  rw [le_min_iff, e]
  refine (and_congr ((rowMin_apply _ _ _ _ r z).trans (forall_congr' hl)) ((rowMin_apply _ _ _ _ r z).trans (forall_congr' ht))).trans ?_
  constructor
  · rintro ⟨h1, h2⟩ j hj hlt
    rcases Nat.lt_or_ge j 99328 with h | h
    · obtain ⟨k, l, hk, hl, rfl⟩ : ∃ k l, k < 97 ∧ l < 1024 ∧ j = 1024 * k + l := ⟨j / 1024, j % 1024, by omega, by omega, by omega⟩
      have h3 := h1 ⟨l % 128, by omega⟩ (l / 128) (by omega) (by show 128 * (l / 128) + l % 128 < 1024; omega)
      have h4 := (mnF_apply x th r _ z 97 le_rfl).1 h3 k hk
      have h5 : 128 * (l / 128) + l % 128 = l := by omega
      simp only [h5] at h4
      exact h4 hlt
    · have h3 := h2 ⟨j - 99328, by omega⟩
      simp only [show 99328 + (j - 99328) = j by omega] at h3
      exact h3 hlt
  · intro hz
    refine ⟨fun q c hc h => (mnF_apply x th r _ z 97 le_rfl).2 fun k hk hlt => hz _ ?_ hlt, fun l hlt => hz _ ?_ hlt⟩
    · have := q.isLt
      show 1024 * k + (128 * c + q.val) < 100000
      omega
    · have := l.isLt; omega

end

end Cert.Proof

end
-- ==== Proof.Trip.lean ====
/-
  The search over the bits of a row's threshold: what each trip keeps, and what the row's threshold is at the end.
-/
module

public import proofs.«01_k».proof.Proof.RowVals
public import proofs.«01_k».proof.Proof.Search

@[expose] public section

set_option maxRecDepth 16384

noncomputable section

namespace Cert.Proof

open Cert.KernelIdeal Cert.KernelIdeal.Gen Idealize.ShloMosaic Idealize.ShloMosaic.ValueIdx

/-! ## Words -/

theorem shl_toNat (n : ℕ) (hn : n < 32) :
    (Scalar.shli 1#32 (Scalar.subi 31#32 (BitVec.ofNat 32 (32 - (n + 1)))) : BitVec 32).toNat = 2 ^ n := by
  interval_cases n <;> rfl

/-- Setting a bit below all of a word's bits adds it. -/
theorem or_toNat (p s : BitVec 32) (n : ℕ) (hs : s.toNat = 2 ^ n) (hp : 2 ^ (n + 1) ∣ p.toNat) : (p ||| s).toNat = p.toNat + 2 ^ n := by
  obtain ⟨m, hm⟩ := hp
  rw [BitVec.toNat_or, hm, hs, Nat.two_pow_add_eq_or_of_lt (by rw [pow_succ]; have := Nat.two_pow_pos n; omega)]

/-- A multiple of twice a power of two below the place of plus infinity stays at most there with the power added. -/
theorem cand_le (P n : ℕ) (hn : n < 32) (hd : 2 ^ (n + 1) ∣ P) (hP : P ≤ 4286578687) : P + 2 ^ n ≤ 4286578688 := by
  obtain ⟨m, rfl⟩ := hd
  interval_cases n <;> norm_num at hP ⊢ <;> omega

/-! ## Reductions over the rows -/

theorem extract_one {α : Type} (w : S1.Idx → α) : extractAt ![0, 0, 0] (shapeCast S1x1x1 w shapeCasts_S1_S1x1x1) inpos_S1x1x1_p0_0_0 = w (ix1 0) := by
  show w _ = w _
  congr 1
  funext a
  match a with
  | ⟨0, _⟩ => exact Subsingleton.elim (α := Fin 1) _ _

theorem mem_drop (i : S1x32x1.Idx) : i ∈ Finset.univ.filter fun i => reduces_S1x32x1_S1.drop i = ix1 0 := by
  refine Finset.mem_filter.2 ⟨Finset.mem_univ _, ?_⟩
  funext a
  match a with
  | ⟨0, _⟩ => exact Subsingleton.elim (α := Fin 1) _ _

/-- The cell of the middle axis a row goes to. -/
theorem mid_apply {α : Type} (v : S32x1.Idx → α) (r : Fin 32) :
    shapeCast S1x32x1 v shapeCasts_S32x1_S1x32x1 (ix3 0 r 0) = v (ix2 r 0) := shapeCast_ab_1ab_apply v _ 0 r 0

theorem mid_all {α : Type} (v : S32x1.Idx → α) (i : S1x32x1.Idx) :
    ∃ r : Fin 32, i = ix3 0 r 0 := by
  refine ⟨i 1, ?_⟩
  funext a
  match a with
  | ⟨0, _⟩ => exact Subsingleton.elim (α := Fin 1) _ _
  | ⟨1, _⟩ => rfl
  | ⟨2, _⟩ => exact Subsingleton.elim (α := Fin 1) _ _

theorem le_maxRows (v : FVec Ideal S1x32x1 .f32) (hφ : FKind.Formats .f32) (hacc : (0xFF800000#32 : BitVec 32) = FKind.maximumf.neutral .f32 hφ)
    (i : S1x32x1.Idx) : v i ≤ multiReduction .maximumf [1, 2] S1 v 0xFF800000#32 reduces_S1x32x1_S1 hφ hacc (ix1 0) := by
  rw [multiReduction_maximumf_eq_fold]
  exact (Finset.le_fold_max _).2 (Or.inr ⟨i, mem_drop i, le_rfl⟩)

theorem le_minRows (v : IVec S1x32x1 32) (hacc : (2147483647#32 : BitVec 32) = IKind.minsi.neutral) (z : BitVec 32) :
    z.toInt ≤ (multiReductionI .minsi [1, 2] S1 v 2147483647#32 reduces_S1x32x1_S1 hacc (ix1 0)).toInt
    ↔ z.toInt ≤ (2147483647#32 : BitVec 32).toInt ∧ ∀ i, z.toInt ≤ (v i).toInt := by
  rw [multiReductionI_eq_fold]
  have hr : ∀ {x y z : BitVec 32}, x.toInt ≤ (IKind.minsi.op y z).toInt ↔ x.toInt ≤ y.toInt ∧ x.toInt ≤ z.toInt := by
    intro x y z
    show x.toInt ≤ (if y.slt z then y else z).toInt ↔ _
    rw [BitVec.slt_eq_decide]
    by_cases h : y.toInt < z.toInt
    · rw [decide_eq_true h, if_pos rfl]; omega
    · rw [decide_eq_false h, if_neg (by decide)]; omega
  refine (Finset.fold_op_rel_iff_and (r := fun a b : BitVec 32 => a.toInt ≤ b.toInt) hr).trans ?_
  exact and_congr_right fun _ => ⟨fun h i => h i (mem_drop i), fun h i _ => h i⟩

/-- With flags 0 and 1, the loop goes on at a bit left while some row is not done. -/
theorem goesOn_of_live (b : BitVec 32) (hb : Scalar.cmpi .slt b 32#32 = 1#1) (d : IVec S32x1 32) (hd : ∀ r : Fin 32, d (ix2 r 0) = 0#32 ∨ d (ix2 r 0) = 1#32)
    (r : Fin 32) (hr : d (ix2 r 0) = 0#32) : goesOn b d := by
  unfold goesOn k0_pay1
  simp only [extract_one]
  have h0 := (le_minRows (shapeCast S1x32x1 d shapeCasts_S32x1_S1x32x1) rfl 0#32).2 ⟨by decide, fun i => by
    obtain ⟨r, rfl⟩ := mid_all d i
    rw [mid_apply]
    rcases hd r with h | h <;> rw [h] <;> decide⟩
  have h1 := (le_minRows (shapeCast S1x32x1 d shapeCasts_S32x1_S1x32x1) rfl 1#32).not.2 (fun h => by
    have := h.2 (ix3 0 r 0)
    rw [mid_apply, hr] at this
    revert this; decide)
  have e : multiReductionI .minsi [1, 2] S1 (shapeCast S1x32x1 d shapeCasts_S32x1_S1x32x1) 2147483647#32 reduces_S1x32x1_S1 rfl (ix1 0) = 0#32 := by
    generalize multiReductionI .minsi [1, 2] S1 (shapeCast S1x32x1 d shapeCasts_S32x1_S1x32x1) 2147483647#32 reduces_S1x32x1_S1 rfl (ix1 0) = w at h0 h1
    have e0 : (0#32 : BitVec 32).toInt = 0 := by decide
    have e1 : (1#32 : BitVec 32).toInt = 1 := by decide
    rw [e0] at h0; rw [e1] at h1
    exact BitVec.eq_of_toInt_eq (by rw [e0]; omega)
  rw [e, hb]
  decide

theorem pay3_apply (b : BitVec 32) (p : IVec S32x1 32) (r : Fin 32) :
    k0_pay3 (F := Ideal) b p (ix2 r 0) = key (p (ix2 r 0) ||| Scalar.shli 1#32 (Scalar.subi 31#32 b)) := rfl

theorem pay60_apply (p : IVec S32x1 32) (r : Fin 32) : k0_pay60 (F := Ideal) p (ix2 r 0) = key (p (ix2 r 0)) := rfl

/-- When no row needs counting, every live row's candidate is above the row's maximum. -/
theorem not_anyLive (mx : FVec Ideal S32x1 .f32) (b : BitVec 32) (p d : IVec S32x1 32) (h : ¬ anyLive mx b p d) (r : Fin 32)
    (hr : d (ix2 r 0) = 0#32) : mx (ix2 r 0) < k0_pay3 (F := Ideal) b p (ix2 r 0) := by
  by_contra hle
  refine h ?_
  have hle := not_lt.1 hle
  have hge : (1 : EReal) ≤ k0_pay4 mx b p d := by
    unfold k0_pay4
    simp only [extract_one]
    refine le_trans (le_of_eq ?_) (le_maxRows _ _ _ (ix3 0 r 0))
    rw [mid_apply]
    show _ = Scalar.select (BitVec.ofBool (decide (k0_pay3 (F := Ideal) b p (ix2 r 0) ≤ mx (ix2 r 0))) &&& BitVec.ofBool (d (ix2 r 0) == 0#32)) (Ideal.ofBits .f32 0x3F800000#32) _
    rw [hr, decide_eq_true hle, Ideal.ofBits_one_f32]
    rfl
  unfold anyLive
  have : Scalar.cmpf .ogt (k0_pay4 mx b p d) (Scalar.ofBits (F := Ideal) .f32 0x00000000#32) = 1#1 := by
    show BitVec.ofBool (decide (Ideal.ofBits .f32 0x00000000#32 < k0_pay4 mx b p d)) = 1#1
    rw [Ideal.ofBits_zero_f32, decide_eq_true (lt_of_lt_of_le zero_lt_one hge)]
    rfl
  rw [this]
  decide

/-! ## A row of the search -/

section
variable (x : Vec Ideal S32x100000 .f32)

/-- A row of real numbers, each one a float's value. -/
def Fine (r : Fin 32) : Prop := ∀ j, j < 100000 → ⊥ < ent x r j ∧ ∃ b : BitVec 32, b.toNat < 4286578688 ∧ key b = ent x r j

/-- How many of a row's entries are at least `t`. -/
abbrev geCount (r : Fin 32) (t : EReal) : ℕ := colCount fun j => t ≤ ent x r j

/-- How many of a row's entries are above `t`. -/
abbrev gtCount (r : Fin 32) (t : EReal) : ℕ := colCount fun j => t < ent x r j

theorem colCount_mono {P Q : ℕ → Prop} (h : ∀ j, j < 100000 → P j → Q j) : colCount P ≤ colCount Q := by
  classical
  unfold colCount
  refine Finset.sum_le_sum fun j hj => ?_
  unfold ind
  split
  · rename_i hp; rw [if_pos (h j (Finset.mem_range.1 hj) hp)]
  · exact Nat.zero_le _

theorem colCount_zero {P : ℕ → Prop} (h : ∀ j, j < 100000 → ¬ P j) : colCount P = 0 := by
  unfold colCount
  refine Finset.sum_eq_zero fun j hj => ?_
  unfold ind
  rw [if_neg (h j (Finset.mem_range.1 hj))]

theorem colCount_all {P : ℕ → Prop} (h : ∀ j, j < 100000 → P j) : colCount P = 100000 := by
  unfold colCount
  rw [Finset.sum_congr rfl (g := fun _ => 1) (fun j hj => by unfold ind; rw [if_pos (h j (Finset.mem_range.1 hj))])]
  simp

theorem key_ne_top (b : BitVec 32) (h : b.toNat < 4286578688) : key b ≠ ⊤ := by
  rcases Nat.lt_or_ge b.toNat 8388608 with h1 | h1
  · rw [key_bot b h1]; exact bot_ne_top
  rcases Nat.lt_or_ge b.toNat 2147483648 with h2 | h2
  · rw [key_lo b h2 h1]; exact EReal.coe_ne_top _
  · rw [key_hi b h2 h]; exact EReal.coe_ne_top _

theorem key_ne_bot (b : BitVec 32) (h0 : 8388608 ≤ b.toNat) (h : b.toNat < 4286578688) : key b ≠ ⊥ := by
  rcases Nat.lt_or_ge b.toNat 2147483648 with h2 | h2
  · rw [key_lo b h2 h0]; exact EReal.coe_ne_bot _
  · rw [key_hi b h2 h]; exact EReal.coe_ne_bot _

/-- What holds of a row with `n` bits left to decide. -/
def Inv (r : Fin 32) (n : ℕ) (p d : BitVec 32) : Prop :=
  (d = 0#32 ∧ 2 ^ n ∣ p.toNat ∧ p.toNat ≤ 4286578687 ∧ 1000 ≤ geCount x r (key p)
    ∧ ∀ q : BitVec 32, p.toNat + 2 ^ n ≤ q.toNat → q.toNat ≤ 4286578688 → geCount x r (key q) < 1000)
  ∨ (d = 1#32 ∧ p.toNat ≤ 4286578687 ∧ geCount x r (key p) = 1000)

theorem pay7_apply (b : BitVec 32) (p d c : IVec S32x1 32) (r : Fin 32) : k0_pay7 b p d c (ix2 r 0)
    = Scalar.select (BitVec.ofBool ((1000#32).sle (c (ix2 r 0))) &&& BitVec.ofBool (d (ix2 r 0) == 0#32))
      (p (ix2 r 0) ||| Scalar.shli 1#32 (Scalar.subi 31#32 b)) (p (ix2 r 0)) := rfl

theorem pay8_apply (d c : IVec S32x1 32) (r : Fin 32) :
    k0_pay8 d c (ix2 r 0) = Scalar.select (BitVec.ofBool (c (ix2 r 0) == 1000#32)) 1#32 (d (ix2 r 0)) := rfl

theorem sle_1000 (c : BitVec 32) (hc : c.toNat ≤ 100000) : (1000#32).sle c = decide (1000 ≤ c.toNat) := by
  rw [BitVec.sle_eq_decide, BitVec.toInt_eq_toNat_of_lt (x := c) (by omega), BitVec.toInt_eq_toNat_of_lt (x := 1000#32) (by decide)]
  exact decide_eq_decide.2 (by simp)

theorem eq_1000 (c : BitVec 32) : (c == 1000#32) = decide (c.toNat = 1000) := by
  rw [Bool.beq_eq_decide_eq]
  exact decide_eq_decide.2 (by rw [← BitVec.toNat_inj]; rfl)

/-- One trip of the search on one row. -/
theorem inv_step (r : Fin 32) (hx : Fine x r) (n : ℕ) (hn : n < 32) (p d c s : BitVec 32) (hs : s.toNat = 2 ^ n) (hc : c.toNat ≤ 100000)
    (hcd : d = 0#32 → c.toNat = geCount x r (key (p ||| s))) (h : Inv x r (n + 1) p d) :
    Inv x r n (Scalar.select (BitVec.ofBool ((1000#32).sle c) &&& BitVec.ofBool (d == 0#32)) (p ||| s) p)
      (Scalar.select (BitVec.ofBool (c == 1000#32)) 1#32 d) := by
  rw [sle_1000 c hc, eq_1000, select_ofBool]
  rcases h with ⟨rfl, hdvd, hle, hge, hlt⟩ | ⟨rfl, hle, hge⟩
  · have hcd := hcd rfl
    have hC := or_toNat p s n hs hdvd
    have hCle := cand_le p.toNat n hn hdvd hle
    have hdn : 2 ^ n ∣ p.toNat := (pow_dvd_pow 2 (Nat.le_succ n)).trans hdvd
    have h0 : (BitVec.ofBool ((0#32 : BitVec 32) == 0#32)) = 1#1 := by decide
    rw [h0, show ∀ z : BitVec 1, z &&& 1#1 = z by decide, select_ofBool]
    generalize p ||| s = C at hC hcd
    by_cases h1 : 1000 ≤ c.toNat
    · rw [if_pos h1]
      have hCne : C.toNat ≤ 4286578687 := by
        rcases Nat.lt_or_ge C.toNat 4286578688 with h | h
        · omega
        · have hz : geCount x r (key C) = 0 := colCount_zero fun j hj hjt => by
            rw [key_top C (by omega)] at hjt
            obtain ⟨b, hb, hbe⟩ := (hx j hj).2
            exact key_ne_top b hb (hbe.trans (top_le_iff.1 hjt))
          omega
      by_cases h2 : c.toNat = 1000
      · rw [if_pos h2]
        exact Or.inr ⟨rfl, hCne, by omega⟩
      · rw [if_neg h2]
        refine Or.inl ⟨rfl, ?_, hCne, by omega, fun q hq hq' => hlt q ?_ hq'⟩
        · rw [hC]; exact Nat.dvd_add hdn (dvd_refl _)
        · rw [hC] at hq; rw [pow_succ]; omega
    · rw [if_neg h1, if_neg (by omega)]
      refine Or.inl ⟨rfl, hdn, hle, hge, fun q hq hq' => ?_⟩
      have hm : geCount x r (key q) ≤ geCount x r (key C) :=
        colCount_mono fun j _ hj => (key_mono C q (by omega) hq').trans hj
      omega
  · have h0 : (BitVec.ofBool ((1#32 : BitVec 32) == 0#32)) = 0#1 := by decide
    rw [h0, show ∀ z : BitVec 1, z &&& 0#1 = 0#1 by decide, ite_self]
    exact Or.inr ⟨rfl, hle, hge⟩

theorem bit_lt (n : ℕ) (hn : n + 1 ≤ 32) : Scalar.cmpi .slt (BitVec.ofNat 32 (32 - (n + 1))) 32#32 = 1#1 := by
  have h : n < 32 := by omega
  interval_cases n <;> decide

/-- The whole search: some bit is the last, and there no row is left or no bit is. -/
theorem inv_run (hx : ∀ r, Fine x r) (n : ℕ) (hn : n ≤ 32) : ∀ (p d : IVec S32x1 32),
    (∀ r : Fin 32, Inv x r n (p (ix2 r 0)) (d (ix2 r 0))) →
    ∀ r : Fin 32, ∃ d', Inv x r 0 ((whileVal (rdV x) (mxAll (rdV x)) n (BitVec.ofNat 32 (32 - n)) p d).2.1 (ix2 r 0)) d' := by
  induction n with
  | zero => exact fun p d h r => ⟨_, h r⟩
  | succ n ih =>
    intro p d h r
    rw [whileVal]
    split
    · rw [next_bit n hn]
      refine ih (by omega) _ _ (fun r => ?_) r
      rw [pay7_apply, pay8_apply]
      have hs := shl_toNat n (by omega)
      refine inv_step x r (hx r) n (by omega) _ _ _ _ hs ?_ ?_ (h r)
      · unfold tripCnt
        split
        · rw [cntAll_apply]; exact colCount_le _
        · exact (by decide : (0#32 : BitVec 32).toNat ≤ 100000)
      · intro hd
        unfold tripCnt
        split
        · rw [cntAll_apply, pay3_apply]
        · rename_i hno
          have hm := not_anyLive _ _ p d hno r hd
          rw [pay3_apply] at hm
          refine (colCount_zero fun j hj hjt => ?_).symm
          exact absurd (hjt.trans (mxAll_le x r j hj)) (not_le.2 hm)
    · rename_i hstop
      have hd : ∀ r : Fin 32, d (ix2 r 0) = 0#32 ∨ d (ix2 r 0) = 1#32 := fun r => (h r).imp (fun h => h.1) (fun h => h.1)
      refine ⟨1#32, Or.inr ?_⟩
      rcases h r with hr | hr
      · exact absurd (goesOn_of_live _ (bit_lt n hn) d hd r hr.1) hstop
      · exact ⟨rfl, hr.2⟩

/-- The row's threshold: a real number with 1000 entries at or above it, and either just 1000 of them or fewer above it. -/
theorem tf_found (hx : ∀ r, Fine x r) (r : Fin 32) : ∃ t : ℝ, tf (rdV x) (ix2 r 0) = (t : EReal) ∧ 1000 ≤ geCount x r t
    ∧ (geCount x r t = 1000 ∨ gtCount x r t < 1000) := by
  obtain ⟨d', h⟩ := inv_run x hx 32 le_rfl k0_pay58 k0_pay59 (fun r => Or.inl ⟨rfl, dvd_zero _, Nat.zero_le _, by
      have e : geCount x r (key (k0_pay58 (ix2 r 0))) = 100000 := colCount_all fun j hj => by
        show key 0#32 ≤ _
        rw [key_bot _ (by decide)]; exact bot_le
      omega, fun q hq _ => absurd q.isLt (by
        have : (k0_pay58 (ix2 r 0)).toNat = 0 := rfl
        omega)⟩) r
  have e : tf (rdV x) (ix2 r 0) = key ((whileVal (rdV x) (mxAll (rdV x)) 32 (BitVec.ofNat 32 (32 - 32)) k0_pay58 k0_pay59).2.1 (ix2 r 0)) := rfl
  rw [e]
  generalize (whileVal (rdV x) (mxAll (rdV x)) 32 (BitVec.ofNat 32 (32 - 32)) k0_pay58 k0_pay59).2.1 (ix2 r 0) = p at h
  have hp : p.toNat ≤ 4286578687 ∧ 1000 ≤ geCount x r (key p) ∧ (geCount x r (key p) = 1000 ∨
      ∀ q : BitVec 32, p.toNat + 1 ≤ q.toNat → q.toNat ≤ 4286578688 → geCount x r (key q) < 1000) := by
    rcases h with ⟨_, _, h1, h2, h3⟩ | ⟨_, h1, h2⟩
    · exact ⟨h1, h2, Or.inr h3⟩
    · exact ⟨h1, h2.ge, Or.inl h2⟩
  obtain ⟨h1, h2, h3⟩ := hp
  have hpos : 8388608 ≤ p.toNat := by
    by_contra hlt
    rcases h3 with h3 | h3
    · have : geCount x r (key p) = 100000 := colCount_all fun j hj => by
        rw [key_bot p (by omega)]; exact bot_le
      omega
    · have h4 := h3 8388608#32 (by show p.toNat + 1 ≤ 8388608; omega) (by decide)
      have : geCount x r (key 8388608#32) = 100000 := colCount_all fun j hj => by
        obtain ⟨hb0, b, hb, hbe⟩ := hx r j hj
        rw [← hbe] at hb0 ⊢
        refine key_mono _ _ ?_ hb.le
        show 8388608 ≤ b.toNat
        by_contra hlt'
        rw [key_bot b (by omega)] at hb0
        exact lt_irrefl _ hb0
      omega
  have hreal : ((key p).toReal : EReal) = key p := EReal.coe_toReal (key_ne_top p (by omega)) (key_ne_bot p hpos (by omega))
  refine ⟨(key p).toReal, hreal.symm, ?_⟩
  rw [hreal]
  refine ⟨h2, h3.imp id fun h3 => ?_⟩
  have hq : (BitVec.ofNat 32 (p.toNat + 1)).toNat = p.toNat + 1 := by rw [BitVec.toNat_ofNat]; omega
  refine lt_of_le_of_lt (colCount_mono fun j hj hlt => ?_) (h3 (BitVec.ofNat 32 (p.toNat + 1)) hq.ge (by omega))
  by_contra hno
  exact absurd (key_gap _ (hx r j hj).2 p _ hq (by omega) hlt.le (not_le.1 hno)) hlt.ne'

end

end Cert.Proof

end
-- ==== Proof.Select.lean ====
/-
  The arithmetic of the selection, over the reals: what the sum over the k largest columns other than the target is, given
  a threshold that at least k + 1 columns reach and at most k exceed.
-/
module

public import Idealize.ShloMosaic.PureOps.Ideal

@[expose] public section

noncomputable section

namespace Cert.Proof

open Finset

/-- The sum of `f` over a set of the `k` largest columns other than `p`, from a threshold: the sum over the columns above
    it, filled up to `k + 1` with the value at the threshold, less the value at the larger of the column `p` and the
    threshold. -/
theorem select_sum {ι : Type*} [Fintype ι] [DecidableEq ι] (x : ι → ℝ) (f : ℝ → ℝ) (p : ι) (k : ℕ) (S : Finset ι)
    (hS : S.card = k) (hp : p ∉ S) (hT : ∀ s ∈ S, ∀ j, j ∉ S → j ≠ p → x j ≤ x s) (t : ℝ)
    (hge : k + 1 ≤ (univ.filter fun j => t ≤ x j).card) (hgt : (univ.filter fun j => t < x j).card ≤ k) :
    ∑ s ∈ S, f (x s) = ∑ j ∈ univ.filter (fun j => t < x j), f (x j)
      + ((k : ℝ) + 1 - ((univ.filter fun j => t < x j).card : ℝ)) * f t - f (max (x p) t) := by
  classical
  set G := univ.filter fun j => t < x j with hG
  have hGS : G.erase p ⊆ S := by
    intro j hj
    by_contra hjS
    obtain ⟨hjp, hjG⟩ := mem_erase.1 hj
    have htj : t < x j := (mem_filter.1 hjG).2
    have hsub : insert j S ⊆ G := by
      intro s hs
      rcases mem_insert.1 hs with rfl | hs
      · exact hjG
      · exact mem_filter.2 ⟨mem_univ _, lt_of_lt_of_le htj (hT s hs j hjS hjp)⟩
    have := card_le_card hsub
    rw [card_insert_of_notMem hjS, hS] at this
    omega
  have hSt : ∀ s ∈ S, t ≤ x s := by
    intro s hs
    by_contra hlt
    have hsub : (univ.filter fun j => t ≤ x j) ⊆ insert p (S.erase s) := by
      intro j hj
      have htj : t ≤ x j := (mem_filter.1 hj).2
      by_cases hjp : j = p
      · exact mem_insert.2 (Or.inl hjp)
      · refine mem_insert.2 (Or.inr (mem_erase.2 ⟨?_, ?_⟩))
        · rintro rfl; exact hlt htj
        · by_contra hjS; exact hlt (htj.trans (hT s hs j hjS hjp))
    have h1 := card_le_card hsub
    have h2 := card_insert_le p (S.erase s)
    rw [card_erase_of_mem hs, hS] at h2
    have h3 : 0 < S.card := card_pos.2 ⟨s, hs⟩
    omega
  have hrest : ∑ s ∈ S \ G.erase p, f (x s) = ((S \ G.erase p).card : ℝ) * f t := by
    rw [← nsmul_eq_mul, ← sum_const]
    refine sum_congr rfl fun s hs => ?_
    obtain ⟨hsS, hsG⟩ := mem_sdiff.1 hs
    have hsp : s ≠ p := fun h => hp (h ▸ hsS)
    have : ¬ t < x s := fun h => hsG (mem_erase.2 ⟨hsp, mem_filter.2 ⟨mem_univ _, h⟩⟩)
    rw [le_antisymm (not_lt.1 this) (hSt s hsS)]
  have hcard : ((S \ G.erase p).card : ℝ) = (k : ℝ) - ((G.erase p).card : ℝ) := by
    rw [card_sdiff_of_subset hGS, hS, Nat.cast_sub (hS ▸ card_le_card hGS)]
  rw [← sum_sdiff hGS, hrest, hcard]
  by_cases hpG : p ∈ G
  · have hlt : t < x p := (mem_filter.1 hpG).2
    rw [max_eq_left hlt.le, ← add_sum_erase G (fun j => f (x j)) hpG, card_erase_of_mem hpG,
      Nat.cast_sub (card_pos.2 ⟨p, hpG⟩)]
    push_cast
    ring
  · have hle : x p ≤ t := not_lt.1 fun h => hpG (mem_filter.2 ⟨mem_univ _, h⟩)
    rw [max_eq_right hle, erase_eq_of_notMem hpG]
    ring

/-- Exactly `k + 1` columns above a threshold: their least value is a threshold as `select_sum` takes it, and nothing is
    to be filled up. -/
theorem select_sum_exact {ι : Type*} [Fintype ι] [DecidableEq ι] (x : ι → ℝ) (f : ℝ → ℝ) (p : ι) (k : ℕ) (S : Finset ι)
    (hS : S.card = k) (hp : p ∉ S) (hT : ∀ s ∈ S, ∀ j, j ∉ S → j ≠ p → x j ≤ x s) (t w : ℝ)
    (hgt : (univ.filter fun j => t < x j).card = k + 1) (hw : ∀ j, t < x j → w ≤ x j) (hw' : ∃ j, t < x j ∧ x j = w) :
    ∑ s ∈ S, f (x s) = ∑ j ∈ univ.filter (fun j => t < x j), f (x j) - f (max (x p) w) := by
  classical
  obtain ⟨j0, hj0, rfl⟩ := hw'
  have hset : (univ.filter fun j => t < x j) = univ.filter fun j => x j0 ≤ x j := by
    ext j
    simp only [mem_filter, mem_univ, true_and]
    exact ⟨hw j, fun h => lt_of_lt_of_le hj0 h⟩
  have hsub : (univ.filter fun j => x j0 < x j) ⊆ univ.filter fun j => x j0 ≤ x j := by
    intro j hj
    exact mem_filter.2 ⟨mem_univ _, (mem_filter.1 hj).2.le⟩
  have hle : (univ.filter fun j => x j0 < x j).card ≤ k := by
    have : (univ.filter fun j => x j0 < x j) ⊂ univ.filter fun j => x j0 ≤ x j :=
      (ssubset_iff_of_subset hsub).2 ⟨j0, mem_filter.2 ⟨mem_univ _, le_rfl⟩, fun h => lt_irrefl _ (mem_filter.1 h).2⟩
    have := card_lt_card this
    rw [← hset, hgt] at this
    omega
  rw [select_sum x f p k S hS hp hT (x j0) (by rw [← hset, hgt]) hle, hset, ← sum_sdiff hsub]
  have hties : ∑ j ∈ (univ.filter fun j => x j0 ≤ x j) \ (univ.filter fun j => x j0 < x j), f (x j)
      = ((k : ℝ) + 1 - ((univ.filter fun j => x j0 < x j).card : ℝ)) * f (x j0) := by
    have hc : (((univ.filter fun j => x j0 ≤ x j) \ (univ.filter fun j => x j0 < x j)).card : ℝ)
        = (k : ℝ) + 1 - ((univ.filter fun j => x j0 < x j).card : ℝ) := by
      rw [card_sdiff_of_subset hsub, ← hset, hgt, Nat.cast_sub (by omega)]
      push_cast; ring
    rw [← hc, ← nsmul_eq_mul, ← sum_const]
    refine sum_congr rfl fun j hj => ?_
    obtain ⟨h1, h2⟩ := mem_sdiff.1 hj
    have h3 : ¬ x j0 < x j := fun h => h2 (mem_filter.2 ⟨mem_univ _, h⟩)
    rw [le_antisymm (not_lt.1 h3) (mem_filter.1 h1).2]
  rw [hties]
  ring

end Cert.Proof

end
-- ==== Proof.Block.lean ====
/-
  The block's share of the output: the sum over its rows of each row's loss, the loss being taken over any set of the 999
  largest entries other than the target's.
-/
module

public import proofs.«01_k».proof.Proof.Trip
public import proofs.«01_k».proof.Proof.Select

@[expose] public section

set_option maxRecDepth 16384

noncomputable section

namespace Cert.Proof

open Cert.KernelIdeal Cert.KernelIdeal.Gen Idealize.ShloMosaic Idealize.ShloMosaic.ValueIdx

/-- The weight of the second term over its number of entries. -/
abbrev wt : ℝ := 13421773 / 67041755136

/-- The second term's square. -/
abbrev sqr (z : ℝ) : ℝ := (1 + z) * (1 + z)

/-- A set of the 999 largest entries of a row other than the one at `p`. -/
structure Tops (X : Fin 100000 → ℝ) (p : Fin 100000) (S : Finset (Fin 100000)) : Prop where
  card : S.card = 999
  notMem : p ∉ S
  top : ∀ s ∈ S, ∀ j, j ∉ S → j ≠ p → X j ≤ X s

/-- A row's loss, from a set of its largest entries. -/
def loss (X : Fin 100000 → ℝ) (p : Fin 100000) (S : Finset (Fin 100000)) : ℝ :=
  (1 - X p) * (1 - X p) + wt * ∑ s ∈ S, sqr (X s)

theorem ereal_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem colCount_card (P : ℕ → Prop) (Q : Fin 100000 → Prop) [DecidablePred Q] (h : ∀ j : Fin 100000, P j.val ↔ Q j) :
    colCount P = (Finset.univ.filter Q).card := by
  unfold colCount ind
  rw [Finset.sum_range, Finset.card_filter]
  refine Finset.sum_congr rfl fun j _ => ?_
  by_cases hq : Q j
  · rw [if_pos hq, if_pos ((h j).2 hq)]
  · rw [if_neg hq, if_neg (mt (h j).1 hq)]

theorem rcp1024 : Ideal.ofBits .f32 0x3A800000#32 = ((1 / 1024 : ℝ) : EReal) := by
  simp [Ideal.ofBits, Ideal.ieee]
  rw [← EReal.coe_mul, EReal.coe_eq_coe_iff]; norm_num

section
variable (x : Vec Ideal S32x100000 .f32) (v0 : Vec Ideal S32x1 .i32) (r : Fin 32)

/-- The value that stands for the threshold in the last subtraction. -/
abbrev thr : EReal := Scalar.select (BitVec.ofBool (cgtAll x (tf (rdV x)) (ix2 r 0) == 1000#32)) (mnAll x (tf (rdV x)) r) (tf (rdV x) (ix2 r 0))

/-- What the kernel adds up for a row. -/
abbrev perRow : EReal :=
  (1 - k0_pay56 (k0_pay9 v0) (posF (rdV x) (k0_pay9 v0) 97 le_rfl) (tl (rdV x)) (ix2 r 0))
      * (1 - k0_pay56 (k0_pay9 v0) (posF (rdV x) (k0_pay9 v0) 97 le_rfl) (tl (rdV x)) (ix2 r 0))
    + ((wt : ℝ) : EReal) * (k0_pay273 (sgtF (rdV x) (tf (rdV x)) 97 le_rfl) (k0_pay264 (tl (rdV x))) (k0_pay265 (tl (rdV x)) (tf (rdV x))) (ix2 r 0)
        + (((1000#32 - cgtAll x (tf (rdV x)) (ix2 r 0)).toInt : ℝ) : EReal) * ((1 + tf (rdV x) (ix2 r 0)) * (1 + tf (rdV x) (ix2 r 0)))
      - (1 + max (k0_pay56 (k0_pay9 v0) (posF (rdV x) (k0_pay9 v0) 97 le_rfl) (tl (rdV x)) (ix2 r 0)) (thr x r))
        * (1 + max (k0_pay56 (k0_pay9 v0) (posF (rdV x) (k0_pay9 v0) 97 le_rfl) (tl (rdV x)) (ix2 r 0)) (thr x r)))

theorem pay9_apply : k0_pay9 v0 = v0 := by
  unfold k0_pay9
  exact shapeCast_self _ _

theorem cast_row (a s n t q : ℝ) :
    (1 - (a : EReal)) * (1 - (a : EReal)) + ((wt : ℝ) : EReal) * ((s : EReal) + (n : EReal) * ((1 + (t : EReal)) * (1 + (t : EReal)))
      - (1 + (q : EReal)) * (1 + (q : EReal)))
      = (((1 - a) * (1 - a) + wt * (s + n * sqr t - sqr q) : ℝ) : EReal) := by
  rw [EReal.coe_add, EReal.coe_mul, EReal.coe_mul, EReal.coe_sub, EReal.coe_sub, EReal.coe_add, EReal.coe_mul, EReal.coe_mul, EReal.coe_mul,
    EReal.coe_add, EReal.coe_add, EReal.coe_one]

theorem fill_none (a s t q : ℝ) : a + wt * (s + (1000 - ((1000 : ℕ) : ℝ)) * t - q) = a + wt * (s - q) := by
  rw [Nat.cast_ofNat, sub_self, zero_mul, add_zero]

theorem fill_some (a s t q g : ℝ) : a + wt * (s + (1000 - g) * t - q) = a + wt * (s + (((999 : ℕ) : ℝ) + 1 - g) * t - q) := by
  rw [Nat.cast_ofNat, show (999 : ℝ) + 1 = 1000 by norm_num]

/-- A row's share is the row's loss. -/
theorem perRow_eq (hx : ∀ r, Fine x r) (X : Fin 100000 → ℝ) (hX : ∀ j : Fin 100000, ent x r j.val = (X j : EReal)) (p : Fin 100000)
    (hp : (v0 (ix2 r 0)).toNat = p.val) (S : Finset (Fin 100000)) (hS : Tops X p S) : perRow x v0 r = ((loss X p S : ℝ) : EReal) := by
  classical
  obtain ⟨t, ht, hge, hor⟩ := tf_found x hx r
  have hpos : k0_pay56 (k0_pay9 v0) (posF (rdV x) (k0_pay9 v0) 97 le_rfl) (tl (rdV x)) (ix2 r 0) = (X p : EReal) := by
    rw [pay9_apply, posAll_apply x r v0 (by rw [hp]; exact p.isLt), hp, hX]
  have hcgt := cgtAll_apply x (tf (rdV x)) r
  have hsum := sgtAll_apply x (tf (rdV x)) r
  have hmn := le_mnAll x (tf (rdV x)) r
  rw [ht] at hcgt hsum hmn
  obtain ⟨G, hG⟩ : ∃ G, G = Finset.univ.filter fun j : Fin 100000 => t < X j := ⟨_, rfl⟩
  have hgt' : gtCount x r t = G.card := by
    rw [hG]
    refine colCount_card _ _ fun j => ?_
    rw [hX, EReal.coe_lt_coe_iff]
  have hge' : geCount x r t = (Finset.univ.filter fun j : Fin 100000 => t ≤ X j).card := by
    refine colCount_card _ _ fun j => ?_
    rw [hX, EReal.coe_le_coe_iff]
  have hle : gtCount x r t ≤ geCount x r t := colCount_mono fun j _ h => h.le
  have hg : G.card ≤ 1000 := by omega
  have hc : (cgtAll x (tf (rdV x)) (ix2 r 0)).toNat = G.card := by rw [hcgt, ← hgt']
  have hs : k0_pay273 (sgtF (rdV x) (tf (rdV x)) 97 le_rfl) (k0_pay264 (tl (rdV x))) (k0_pay265 (tl (rdV x)) (tf (rdV x))) (ix2 r 0)
      = ((∑ j ∈ G, sqr (X j) : ℝ) : EReal) := by
    rw [hsum, ereal_sum, hG, Finset.sum_filter, Finset.sum_range]
    refine Finset.sum_congr rfl fun j _ => ?_
    rw [hX]
    unfold sq
    by_cases h : t < X j
    · rw [if_pos (EReal.coe_lt_coe_iff.2 h), if_pos h, EReal.coe_mul, EReal.coe_add, EReal.coe_one]
    · rw [if_neg (mt EReal.coe_lt_coe_iff.1 h), if_neg h]
  have hneed : ((1000#32 - cgtAll x (tf (rdV x)) (ix2 r 0)).toInt : ℝ) = 1000 - (G.card : ℝ) := by
    have h1 : (1000#32 - cgtAll x (tf (rdV x)) (ix2 r 0)).toNat = 1000 - G.card := by
      rw [BitVec.toNat_sub, hc, show (1000#32 : BitVec 32).toNat = 1000 from rfl]
      omega
    rw [BitVec.toInt_eq_toNat_of_lt (x := 1000#32 - cgtAll x (tf (rdV x)) (ix2 r 0)) (by omega), h1]
    rw [Int.cast_natCast, Nat.cast_sub hg, Nat.cast_ofNat]
  unfold perRow
  rw [hpos, hs, hneed, ht]
  unfold thr
  rw [eq_1000, select_ofBool, hc, ht]
  by_cases h1000 : G.card = 1000
  · rw [if_pos h1000]
    have hmem : ∀ j, j ∈ G ↔ t < X j := fun j => by rw [hG]; exact Finset.mem_filter.trans (and_iff_right (Finset.mem_univ _))
    obtain ⟨j0, hj0, hmin⟩ := Finset.exists_min_image G X (Finset.card_pos.1 (by omega))
    have hj0' : t < X j0 := (hmem j0).1 hj0
    have hm : mnAll x (tf (rdV x)) r = (X j0 : EReal) := by
      refine le_antisymm ?_ ((hmn _).2 fun j hj hlt => ?_)
      · have := (hmn _).1 le_rfl j0.val j0.isLt (by rw [hX]; exact EReal.coe_lt_coe_iff.2 hj0')
        rwa [hX] at this
      · rw [hX ⟨j, hj⟩] at hlt ⊢
        exact EReal.coe_le_coe_iff.2 (hmin _ ((hmem _).2 (EReal.coe_lt_coe_iff.1 hlt)))
    have hsel := select_sum_exact X sqr p 999 S hS.card hS.notMem hS.top t (X j0) (hG ▸ h1000)
      (fun j hj => hmin j ((hmem j).2 hj)) ⟨j0, hj0', rfl⟩
    rw [← hG] at hsel
    rw [hm, ← EReal.coe_strictMono.monotone.map_max, cast_row, h1000]
    unfold loss
    rw [hsel]
    exact congrArg _ (fill_none _ _ _ _)
  · rw [if_neg h1000]
    have hsel := select_sum X sqr p 999 S hS.card hS.notMem hS.top t (by omega) (by rw [← hG]; omega)
    rw [← hG] at hsel
    rw [← EReal.coe_strictMono.monotone.map_max, cast_row]
    unfold loss
    rw [hsel]
    exact congrArg _ (fill_some _ _ _ _ _)

end

/-- The total over the rows of a column. -/
theorem sum_mid (v : FVec Ideal S32x1 .f32) (hφ : FKind.Formats .f32) (hacc : (0x00000000#32 : BitVec 32) = FKind.add.neutral .f32 hφ) :
    multiReduction .add [1, 2] S1 (shapeCast S1x32x1 v shapeCasts_S32x1_S1x32x1) 0x00000000#32 reduces_S1x32x1_S1 hφ hacc (ix1 0)
      = ∑ r : Fin 32, v (ix2 r 0) := by
  rw [Ideal.multiReduction_add_total _ _ _ (fun b => match b with | ⟨0, _⟩ => rfl)]
  refine Finset.sum_nbij' (fun i => (i 1 : Fin 32)) (fun r => ix3 0 r 0) (fun _ _ => Finset.mem_univ _) (fun _ _ => Finset.mem_univ _)
    (fun i _ => ?_) (fun r _ => rfl) (fun i _ => ?_)
  · obtain ⟨r, rfl⟩ := mid_all v i; rfl
  · obtain ⟨r, rfl⟩ := mid_all v i; exact mid_apply v r

/-- The block's last step, read at the output's one cell. -/
theorem pay277_apply (y : Vec Ideal S32x672 .f32) (pos t : FVec Ideal S32x1 .f32) (k : IVec S32x672 1) (n : IVec S32x1 32) (s : FVec Ideal S32x1 .f32)
    (a b : FVec Ideal S32x128 .f32) (old : Vec Ideal S1x1 .f32) :
    k0_pay277 y pos t k n s a b old (ix2 0 0) = old (ix2 0 0) + (∑ r : Fin 32,
      ((1 - pos (ix2 r 0)) * (1 - pos (ix2 r 0)) + ((wt : ℝ) : EReal) * (s (ix2 r 0)
        + (((1000#32 - n (ix2 r 0)).toInt : ℝ) : EReal) * ((1 + t (ix2 r 0)) * (1 + t (ix2 r 0)))
        - (1 + max (pos (ix2 r 0)) (Scalar.select (BitVec.ofBool (n (ix2 r 0) == 1000#32)) (min
            (multiReduction .minimumf [1] S32 (minimumf a b) 0x7F800000#32 reduces_S32x128_S32 (.inl rfl) rfl (ix1 r))
            (multiReduction .minimumf [1] S32 (select k y (broadcast S32x672 (Scalar.ofBits (F := Ideal) .f32 0x7F800000#32)) : FVec Ideal S32x672 .f32) 0x7F800000#32 reduces_S32x672_S32 (.inl rfl) rfl (ix1 r))) (t (ix2 r 0))))
          * (1 + max (pos (ix2 r 0)) (Scalar.select (BitVec.ofBool (n (ix2 r 0) == 1000#32)) (min
            (multiReduction .minimumf [1] S32 (minimumf a b) 0x7F800000#32 reduces_S32x128_S32 (.inl rfl) rfl (ix1 r))
            (multiReduction .minimumf [1] S32 (select k y (broadcast S32x672 (Scalar.ofBits (F := Ideal) .f32 0x7F800000#32)) : FVec Ideal S32x672 .f32) 0x7F800000#32 reduces_S32x672_S32 (.inl rfl) rfl (ix1 r))) (t (ix2 r 0))))))) * ((1 / 1024 : ℝ) : EReal) := by
  have hnamed : (Named.named (F := Ideal) κ "delta_over_k" 0x3951ECD5#32 : Ideal .f32) = ((wt : ℝ) : EReal) :=
    IdealRules.named_const.ideal_named_scalar _ _ _ _ rfl
  have h1 : (Scalar.ofBits (F := Ideal) .f32 0x3F800000#32 : Ideal .f32) = (1 : EReal) := Ideal.ofBits_one_f32
  unfold k0_pay277
  rw [hnamed, h1]
  simp only [extract_one]
  refine congrArg₂ (fun a b : EReal => a + b) (congrFun (shapeCast_self old shapeCasts_S1x1_S1x1) _)
    (congrArg₂ (fun a b : EReal => a * b) ((sum_mid _ _ _).trans (Finset.sum_congr rfl fun r _ => ?_)) rcp1024)
  rw [← col_apply (multiReduction .minimumf [1] S32 (minimumf a b) 0x7F800000#32 reduces_S32x128_S32 (.inl rfl) rfl) shapeCasts_S32_S32x1 r,
    ← col_apply (multiReduction .minimumf [1] S32 (select k y _ : FVec Ideal S32x672 .f32) 0x7F800000#32 reduces_S32x672_S32 (.inl rfl) rfl) shapeCasts_S32_S32x1 r]
  rfl

/-- The output after a block. -/
theorem blockOut_apply (x : Vec Ideal S32x100000 .f32) (v0 : Vec Ideal S32x1 .i32) (old : Vec Ideal S1x1 .f32) :
    blockOut (rdV x) v0 old (ix2 0 0) = old (ix2 0 0) + (∑ r : Fin 32, perRow x v0 r) * ((1 / 1024 : ℝ) : EReal) := by
  unfold blockOut
  exact pay277_apply _ _ _ _ _ _ _ _ _

end Cert.Proof

end
-- ==== Proof.RefOps.lean ====
/-
  The reference's layout operations at an index: one entry gathered from each row, one entry replaced in each row, and the
  largest entries of a sorted row.
-/
module

public import proofs.«01_k».proof.Proof.Block
public import Idealize.ShloMosaic.Lib.SortFacts
public import Idealize.ShloMosaic.Lib.Routing.OpsSet
public import Idealize.ShloMosaic.Lib.Routing.OpsPair
public import Idealize.ShloMosaic.Lib.ValueIdxCore

@[expose] public section

set_option maxRecDepth 16384

noncomputable section

namespace Cert.Proof

open Idealize.ShloMosaic Idealize.ShloMosaic.ValueIdx

/-- One entry gathered from each row, rows paired with index rows. -/
abbrev rowGather (R C : ℕ)
    (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

theorem rowGather_apply {α : Type} {R C : ℕ}
    (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ 32) (r : Fin R) (c : Fin C)
    (h : (idx (ix3 r 0 0)).toInt = (c.val : ℤ)) :
    Host.gather (rowGather R C wf) x idx (ix2 r 0) = x (ix2 r c) := by
  unfold Host.gather
  congr 1
  funext a
  refine Fin.ext ?_
  show (rowGather R C wf).start (ix2 r 0) idx a + (rowGather R C wf).batchCoord (ix2 r 0) a
      + (rowGather R C wf).offCoord (ix2 r 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowGather R C wf).startIndexMap from List.mem_singleton.mpr rfl)]
    have hsi : (rowGather R C wf).siIdx (ix2 r 0) ⟨List.idxOf (1 : Fin 2) (rowGather R C wf).startIndexMap,
        List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi, h]
    show min ((c.val : ℤ).toNat) (C - 1) = c.val
    have := c.isLt
    omega

/-- One entry replaced in each row, at the pair of index words of the row. -/
abbrev rowScatter (R C : ℕ) (wf : ScatterDims.WF ⟨2, ![R, C]⟩ ⟨2, ![R, 2]⟩ ⟨1, ![R]⟩ [] [0, 1] [0, 1] 1) :
    ScatterDims ⟨2, ![R, C]⟩ ⟨2, ![R, 2]⟩ ⟨1, ![R]⟩ where
  updateWindowDims := []
  insertedWindowDims := [0, 1]
  scatterDimsToOperandDims := [0, 1]
  indexVectorDim := 1
  wf := wf

theorem rowScatter_lands {R C : ℕ} (wf : ScatterDims.WF ⟨2, ![R, C]⟩ ⟨2, ![R, 2]⟩ ⟨1, ![R]⟩ [] [0, 1] [0, 1] 1)
    (idx : IVec ⟨2, ![R, 2]⟩ 32) (k r : Fin R) (c : Fin C) :
    (rowScatter R C wf).resultIdx? (ix1 k) idx = some (ix2 r c)
      ↔ (idx (ix2 k 0)).toInt = (r.val : ℤ) ∧ (idx (ix2 k 1)).toInt = (c.val : ℤ) := by
  have hm : ∀ q : Fin 2, q ∈ (rowScatter R C wf).scatterDimsToOperandDims := fun q => by
    show q ∈ [(0 : Fin 2), 1]
    fin_cases q <;> simp
  have hwin : ∀ q : Fin 2, (rowScatter R C wf).window (ix1 k) q = 0 := fun q => by
    unfold ScatterDims.window
    rw [dif_neg fun h => (of_decide_eq_true (List.mem_filter.1 h).2) (by show q ∈ [(0 : Fin 2), 1]; fin_cases q <;> simp)]
  have hsi : ∀ q : Fin 2, (rowScatter R C wf).siIdx (ix1 k)
      ⟨(rowScatter R C wf).scatterDimsToOperandDims.idxOf q, List.idxOf_lt_length_iff.2 (hm q)⟩ = ix2 k q := fun q => by
    funext b
    refine Fin.ext ?_
    match b, q with
    | ⟨0, _⟩, _ => rfl
    | ⟨1, _⟩, ⟨0, _⟩ => rfl
    | ⟨1, _⟩, ⟨1, _⟩ => rfl
  have hstart : ∀ q : Fin 2, (rowScatter R C wf).start (ix1 k) idx q = (idx (ix2 k q)).toInt := fun q => by
    unfold ScatterDims.start
    rw [dif_pos (hm q), hsi]
  rw [Routing.resultIdx?_eq_some]
  constructor
  · intro h
    have h0 : (rowScatter R C wf).start (ix1 k) idx 0 + ((rowScatter R C wf).window (ix1 k) 0 : ℤ) = (r.val : ℤ) := h 0
    have h1 : (rowScatter R C wf).start (ix1 k) idx 1 + ((rowScatter R C wf).window (ix1 k) 1 : ℤ) = (c.val : ℤ) := h 1
    rw [hstart, hwin] at h0 h1
    exact ⟨by simpa using h0, by simpa using h1⟩
  · intro h a
    match a with
    | ⟨0, _⟩ =>
      show (rowScatter R C wf).start (ix1 k) idx 0 + ((rowScatter R C wf).window (ix1 k) 0 : ℤ) = (r.val : ℤ)
      rw [hstart, hwin, h.1]; simp
    | ⟨1, _⟩ =>
      show (rowScatter R C wf).start (ix1 k) idx 1 + ((rowScatter R C wf).window (ix1 k) 1 : ℤ) = (c.val : ℤ)
      rw [hstart, hwin, h.2]; simp

theorem rowScatter_apply {α : Type} {R C : ℕ}
    (wf : ScatterDims.WF ⟨2, ![R, C]⟩ ⟨2, ![R, 2]⟩ ⟨1, ![R]⟩ [] [0, 1] [0, 1] 1)
    (x : (⟨2, ![R, C]⟩ : Shape).Idx → α) (idx : IVec ⟨2, ![R, 2]⟩ 32) (upd : (⟨1, ![R]⟩ : Shape).Idx → α) (v : α)
    (hv : ∀ i, upd i = v) (t : Fin R → Fin C) (h0 : ∀ k : Fin R, (idx (ix2 k 0)).toInt = (k.val : ℤ))
    (h1 : ∀ k : Fin R, (idx (ix2 k 1)).toInt = ((t k).val : ℤ)) (r : Fin R) (c : Fin C) :
    Host.scatter (rowScatter R C wf) (fun _ b => b) x idx upd (ix2 r c) = if c = t r then v else x (ix2 r c) := by
  by_cases h : c = t r
  · rw [if_pos h]
    refine Routing.scatter_set_hit _ x idx upd _ v (fun k _ => hv k) (ix1 r) ((rowScatter_lands wf idx r r c).2 ⟨h0 r, ?_⟩)
    rw [h1 r, h]
  · rw [if_neg h]
    refine Routing.scatter_set_miss _ x idx upd _ fun k hk => h ?_
    obtain ⟨q, rfl⟩ : ∃ q : Fin R, k = ix1 q := ⟨k 0, eq_ix1 k⟩
    obtain ⟨e0, e1⟩ := (rowScatter_lands wf idx q r c).1 hk
    rw [h0] at e0
    rw [h1] at e1
    have e : q = r := Fin.ext (by exact_mod_cast e0)
    rw [e] at e1
    exact Fin.ext (by exact_mod_cast e1.symm)

/-- The positions of a row's `K` largest entries once the entry at `p` has been made smaller than every other. -/
theorem sorted_front {n K : ℕ} (hK : K < n) (X y : Fin n → ℝ) (p : Fin n) (M : ℝ) (hM : ∀ j, M < X j)
    (hy : ∀ j, y j = if j = p then M else X j) (before : Fin n → Fin n → Bool)
    (hb : ∀ k k', before k k' = decide (y k' < y k)) :
    ∃ S : Finset (Fin n), S.card = K ∧ p ∉ S ∧ (∀ s ∈ S, ∀ j, j ∉ S → j ≠ p → X j ≤ X s) ∧
      ∀ f : ℝ → ℝ, ∑ k : Fin K, f (y (sortedFrom before ⟨k.val, k.isLt.trans hK⟩)) = ∑ s ∈ S, f (X s) := by
  classical
  have hinj := sortedFrom_injective before
  have hsur := sortedFrom_surjective before
  have hord : ∀ i j : Fin n, i < j → y (sortedFrom before j) ≤ y (sortedFrom before i) := by
    intro i j hij
    have h := sortedFrom_noInversion before before
      (fun a b h => by
        rw [hb] at h ⊢
        exact decide_eq_false (not_lt.2 (of_decide_eq_true h).le))
      (fun _ _ h => h)
      (fun a b c h h' => by
        rw [hb] at h h' ⊢
        have h := not_lt.1 (of_decide_eq_false h)
        have h' := not_lt.1 (of_decide_eq_false h')
        exact decide_eq_false (not_lt.2 (h.trans h'))) i j hij
    rw [hb] at h
    exact not_lt.1 (of_decide_eq_false h)
  have hne : ∀ k : Fin K, sortedFrom before ⟨k.val, k.isLt.trans hK⟩ ≠ p := by
    intro k e
    have h := hord ⟨k.val, k.isLt.trans hK⟩ ⟨K, hK⟩ (Fin.mk_lt_mk.2 k.isLt)
    have h2 : sortedFrom before ⟨K, hK⟩ ≠ p := by
      rw [← e]
      intro q
      have := congrArg Fin.val (hinj q)
      have hk := k.isLt
      simp only at this
      omega
    rw [hy, hy, if_neg h2, if_pos e] at h
    exact absurd h (not_le.2 (hM _))
  have hinj' : Function.Injective fun k : Fin K => sortedFrom before ⟨k.val, k.isLt.trans hK⟩ := by
    intro a b e
    have := congrArg Fin.val (hinj e)
    exact Fin.ext this
  refine ⟨Finset.univ.image fun k : Fin K => sortedFrom before ⟨k.val, k.isLt.trans hK⟩, ?_, ?_, ?_, ?_⟩
  · rw [Finset.card_image_of_injective _ hinj', Finset.card_univ, Fintype.card_fin]
  · intro h
    obtain ⟨k, _, e⟩ := Finset.mem_image.1 h
    exact hne k e
  · intro s hs j hj hjp
    obtain ⟨k, _, rfl⟩ := Finset.mem_image.1 hs
    obtain ⟨i, rfl⟩ := hsur j
    have hi : K ≤ i.val := by
      by_contra hlt
      exact hj (Finset.mem_image.2 ⟨⟨i.val, not_le.1 hlt⟩, Finset.mem_univ _, rfl⟩)
    have h := hord ⟨k.val, k.isLt.trans hK⟩ i (Fin.lt_def.2 (lt_of_lt_of_le k.isLt hi))
    rwa [hy, hy, if_neg hjp, if_neg (hne k)] at h
  · intro f
    rw [Finset.sum_image (fun a _ b _ e => hinj' e)]
    refine Finset.sum_congr rfl fun k _ => ?_
    rw [hy, if_neg (hne k)]

/-- The front of a row sorted by a comparison, at an index. -/
theorem topK_apply {α : Type} {R C K : ℕ} (gt : α → α → BitVec 1) (x : (⟨2, ![R, C]⟩ : Shape).Idx → α)
    (h : (⟨2, ![R, C]⟩ : Shape).Slices (fun _ => 0) ⟨2, ![R, K]⟩) (r : Fin R) (k : Fin K) (hk : k.val < C) :
    (Host.topK ⟨2, ![R, K]⟩ 1 gt x h).1 (ix2 r k)
      = x (ix2 r (sortedFrom (fun a b : Fin C => gt (x (ix2 r a)) (x (ix2 r b)) == 1#1) ⟨k.val, hk⟩)) := by
  have key : ∀ (j : (⟨2, ![R, C]⟩ : Shape).Idx) (hj : j = ix2 r ⟨k.val, hk⟩),
      x (j.along 1 (sortedFrom (fun a b : Fin C => gt (x (j.along 1 a)) (x (j.along 1 b)) == 1#1) (j 1)))
        = x (ix2 r (sortedFrom (fun a b : Fin C => gt (x (ix2 r a)) (x (ix2 r b)) == 1#1) ⟨k.val, hk⟩)) := by
    intro j hj
    have al : ∀ a : Fin C, j.along 1 a = ix2 r a := by
      intro a
      subst hj
      funext b
      match b with
      | ⟨0, _⟩ => rfl
      | ⟨1, _⟩ => rfl
    have e1 : (fun a b : Fin C => gt (x (j.along 1 a)) (x (j.along 1 b)) == 1#1)
        = fun a b : Fin C => gt (x (ix2 r a)) (x (ix2 r b)) == 1#1 := by
      funext a b
      rw [al, al]
    refine (congrArg x (al _)).trans ?_
    rw [e1]
    subst hj
    rfl
  refine key _ ?_
  funext b
  match b with
  | ⟨0, _⟩ => exact Fin.ext (Nat.zero_add _)
  | ⟨1, _⟩ => exact Fin.ext (Nat.zero_add _)

end Cert.Proof

end
-- ==== Proof.RefVal.lean ====
/-
  The reference's result: the mean of the rows' losses, each over a set of the row's 999 largest entries other than the
  target's.
-/
module

public import proofs.«01_k».proof.Proof.RefOps
public import proofs.«01_k».proof.Proof.Gen.ReferenceIdeal.Read
public import Idealize.ShloMosaic.Lib.IdealHost

@[expose] public section

set_option maxRecDepth 16384

noncomputable section

namespace Cert.Proof.Ref

open Cert.Proof Cert.ReferenceIdeal Cert.ReferenceIdeal.Gen Cert.ReferenceIdeal.Read Idealize.ShloMosaic Idealize.ShloMosaic.ValueIdx

theorem ofNat_toInt (t : BitVec 32) (h : t.toNat < 100000) : t.toInt = (t.toNat : ℤ) := by
  rw [BitVec.toInt_eq_toNat_of_lt (by omega)]

variable (x0 : (⟨S1024x100000, .f32⟩ : BufTy).Contents (Elt Ideal)) (x1 : (⟨S1024, .i32⟩ : BufTy).Contents (Elt Ideal))

theorem call_v4_apply (h : ∀ r : Fin 1024, (x1 (ix1 r)).toNat < 100000) (r : Fin 1024) (z : Fin 1) :
    val_main_call0_v4 (F := Ideal) x1 (ix2 r z) = x1 (ix1 r) := by
  have e : val_main_v0 (F := Ideal) x1 (ix2 r z) = x1 (ix1 r) := by
    rw [val_main_v0_apply]
    refine congrArg x1 (funext fun a => ?_)
    match a with
    | ⟨0, _⟩ => rfl
  rw [val_main_call0_v4_apply, val_main_call0_v1_apply, val_main_call0_v0_apply, val_main_call0_c_apply, e]
  exact Routing.wrap_of_lt _ _ (by have := h r; omega)

theorem call_v5_apply (h : ∀ r : Fin 1024, (x1 (ix1 r)).toNat < 100000) (r : Fin 1024) (z w : Fin 1) :
    val_main_call0_v5 (F := Ideal) x1 (ix3 r z w) = x1 (ix1 r) := by
  rw [val_main_call0_v5_apply]
  refine Eq.trans (congrArg (val_main_call0_v4 (F := Ideal) x1) ?_) (call_v4_apply x1 h r 0)
  funext a
  match a with
  | ⟨0, _⟩ =>
    refine Fin.ext ?_
    show ((r.val * 1 + z.val) * 1 + w.val) / 1 = r.val
    have := z.isLt
    have := w.isLt
    omega
  | ⟨1, _⟩ => rfl

theorem call_v11_apply (h : ∀ r : Fin 1024, (x1 (ix1 r)).toNat < 100000) (r : Fin 1024) (z w : Fin 1) :
    val_main_call0_v11 (F := Ideal) x1 (ix3 r z w) = 1#1 := by
  rw [val_main_call0_v11_apply, val_main_call0_v7_apply, val_main_call0_v10_apply, val_main_call0_v6_apply,
    val_main_call0_v9_apply, val_main_call0_v8_apply, val_main_call0_c_1_apply, val_main_call0_c_2_apply, call_v5_apply x1 h]
  have ht := h r
  obtain ⟨t, et⟩ : ∃ t, t = x1 (ix1 r) := ⟨_, rfl⟩
  rw [← et] at ht ⊢
  have e := ofNat_toInt t ht
  have h1 : (0#32).sle t = true := by
    rw [BitVec.sle_iff_toInt_le, e]; simp
  have h2 : t.sle 99999#32 = true := by
    rw [BitVec.sle_iff_toInt_le, e]
    show (t.toNat : ℤ) ≤ 99999
    omega
  show BitVec.ofBool ((0#32).sle t) &&& BitVec.ofBool (t.sle 99999#32) = 1#1
  rw [h1, h2]
  rfl

theorem fold_one {ι : Type*} (s : Finset ι) (f : ι → BitVec 1) (hf : ∀ i, f i = 1#1) :
    s.fold IntOp.andi 1#1 f = 1#1 := by
  classical
  induction s using Finset.induction_on with
  | empty => rfl
  | insert a s ha ih => rw [Finset.fold_insert ha, ih, hf]; rfl

theorem call_v12_apply (h : ∀ r : Fin 1024, (x1 (ix1 r)).toNat < 100000) (i : S1024x1.Idx) :
    val_main_call0_v12 (F := Ideal) x1 i = 1#1 := by
  unfold val_main_call0_v12
  rw [Host.reduce_eq_fold]
  refine fold_one _ _ fun j => ?_
  rw [eq_ix3 j]
  exact call_v11_apply x1 h (j 0) (j 1) (j 2)

theorem gather_eq (wf) : gather_S1024x100000_S1024x1x1_S1024x1_n_1_0_0_1_2_11 = rowGather 1024 100000 wf := rfl

theorem scatter_eq (wf) : scatter_S1024x100000_S1024x2_S1024_n_01_01_1 = rowScatter 1024 100000 wf := rfl

theorem pos_apply (h : ∀ r : Fin 1024, (x1 (ix1 r)).toNat < 100000) (r : Fin 1024) :
    val_main_v2 (F := Ideal) x0 x1 (ix1 r) = x0 (ix2 r ⟨(x1 (ix1 r)).toNat, h r⟩) := by
  rw [val_main_v2_apply]
  have e : idx_main_v2 (ix1 r) = ix2 r (0 : Fin 1) := by
    funext a
    match a with
    | ⟨0, _⟩ => exact Fin.ext (Nat.div_one _)
    | ⟨1, _⟩ => rfl
  rw [e, val_main_v1_apply, call_v12_apply x1 h]
  show val_main_call0_v13 (F := Ideal) x0 x1 (ix2 r 0) = _
  unfold val_main_call0_v13
  rw [gather_eq Facts₀.gather_S1024x100000_S1024x1x1_S1024x1_n_1_0_0_1_2_11_wf]
  refine rowGather_apply _ x0 _ r ⟨(x1 (ix1 r)).toNat, h r⟩ ?_
  rw [call_v5_apply x1 h]
  exact ofNat_toInt _ (h r)

theorem v13_apply (h : ∀ r : Fin 1024, (x1 (ix1 r)).toNat < 100000) (r : Fin 1024) :
    val_main_v13 (F := Ideal) x1 (ix1 r) = x1 (ix1 r) := by
  rw [val_main_v13_apply, val_main_v10_apply, val_main_v9_apply, val_main_c_1_apply]
  exact Routing.wrap_of_lt _ _ (by have := h r; omega)

theorem v8_apply (r : Fin 1024) : val_main_v8 (F := Ideal) (ix1 r) = BitVec.ofNat 32 r.val := by
  rw [val_main_v8_apply, val_main_v5_apply, val_main_v4_apply, val_main_c_apply, val_main_v3_apply]
  refine Routing.wrap_of_lt _ _ ?_
  show (BitVec.ofNat 32 r.val).toNat < _
  rw [BitVec.toNat_ofNat]
  have := r.isLt
  omega

theorem v16_zero (r : Fin 1024) : val_main_v16 (F := Ideal) x1 (ix2 r 0) = BitVec.ofNat 32 r.val := by
  unfold val_main_v16
  refine (concatenate_pair_apply_left (t := S1024x2) (s₁ := S1024x1) (s₂ := S1024x1) 1 _ _ _ (ix2 r (0 : Fin 2)) rfl (ix2 r (0 : Fin 1)) fun b => ?_).trans ?_
  · match b with
    | ⟨0, _⟩ => rfl
    | ⟨1, _⟩ => rfl
  · rw [val_main_v14_apply]
    refine Eq.trans (congrArg (val_main_v8 (F := Ideal)) ?_) (v8_apply r)
    funext a
    match a with
    | ⟨0, _⟩ => rfl

theorem v16_one (h : ∀ r : Fin 1024, (x1 (ix1 r)).toNat < 100000) (r : Fin 1024) :
    val_main_v16 (F := Ideal) x1 (ix2 r 1) = x1 (ix1 r) := by
  unfold val_main_v16
  refine (concatenate_pair_apply_right (t := S1024x2) (s₁ := S1024x1) (s₂ := S1024x1) 1 _ _ _ (ix2 r (1 : Fin 2)) rfl rfl (ix2 r (0 : Fin 1)) (fun b hb => ?_) rfl).trans ?_
  · match b with
    | ⟨0, _⟩ => rfl
    | ⟨1, _⟩ => exact absurd rfl hb
  · rw [val_main_v15_apply]
    refine Eq.trans (congrArg (val_main_v13 (F := Ideal) x1) ?_) (v13_apply x1 h r)
    funext a
    match a with
    | ⟨0, _⟩ => rfl

theorem masked_apply (h : ∀ r : Fin 1024, (x1 (ix1 r)).toNat < 100000) (r : Fin 1024) (c : Fin 100000) :
    val_main_v18 (F := Ideal) x0 x1 (ix2 r c)
      = if c = ⟨(x1 (ix1 r)).toNat, h r⟩ then Ideal.ofBits .f32 0xF149F2CA#32 else x0 (ix2 r c) := by
  unfold val_main_v18
  rw [scatter_eq Facts₀.scatter_S1024x100000_S1024x2_S1024_n_01_01_1_wf]
  refine rowScatter_apply _ x0 _ _ _ (fun i => ?_) (fun r => ⟨(x1 (ix1 r)).toNat, h r⟩) (fun k => ?_) (fun k => ?_) r c
  · rw [val_main_v17_apply, val_main_cst_apply]
    rfl
  · rw [v16_zero]
    have := k.isLt
    rw [ofNat_toInt _ (by rw [BitVec.toNat_ofNat]; omega), BitVec.toNat_ofNat]
    exact congrArg Int.ofNat (Nat.mod_eq_of_lt (by omega))
  · rw [v16_one x1 h]
    exact ofNat_toInt _ (h k)

/-- The value that replaces the target's entry, as a real. -/
theorem mask_real : ∃ M : ℝ, Ideal.ofBits .f32 0xF149F2CA#32 = (M : EReal) :=
  ⟨_, ofBits_neg 0xF149F2CA#32 (by decide) (by decide)⟩

theorem c999 : Ideal.ofBits .f32 0x4479C000#32 = ((999 : ℝ) : EReal) := by
  simp [Ideal.ofBits, Ideal.ieee]
  rw [← EReal.coe_mul, EReal.coe_eq_coe_iff]; norm_num

theorem c1024 : Ideal.ofBits .f32 0x44800000#32 = ((1024 : ℝ) : EReal) := by
  simp [Ideal.ofBits, Ideal.ieee]
  rw [← EReal.coe_mul, EReal.coe_eq_coe_iff]; norm_num

theorem cfifth : Ideal.ofBits .f32 0x3E4CCCCD#32 = ((13421773 / 67108864 : ℝ) : EReal) := by
  simp [Ideal.ofBits, Ideal.ieee]
  rw [← EReal.coe_mul, EReal.coe_eq_coe_iff]; norm_num

theorem row_real (a s : ℝ) : (1 - a) * (1 - a) + 13421773 / 67108864 * (s * (1 / 999)) = (1 - a) * (1 - a) + wt * s := by
  unfold wt; ring

theorem row_apply (h : ∀ r : Fin 1024, (x1 (ix1 r)).toNat < 100000) (X : Fin 1024 → Fin 100000 → ℝ)
    (hX : ∀ r j, x0 (ix2 r j) = (X r j : EReal)) (hM : ∀ r j, Ideal.ofBits .f32 0xF149F2CA#32 < x0 (ix2 r j)) (r : Fin 1024) :
    ∃ S, Tops (X r) ⟨(x1 (ix1 r)).toNat, h r⟩ S ∧
      val_main_v30 (F := Ideal) x0 x1 (ix1 r) = ((loss (X r) ⟨(x1 (ix1 r)).toNat, h r⟩ S : ℝ) : EReal) := by
  obtain ⟨M, eM⟩ := mask_real
  obtain ⟨p, hp⟩ : ∃ p, p = (⟨(x1 (ix1 r)).toNat, h r⟩ : Fin 100000) := ⟨_, rfl⟩
  obtain ⟨y, hy⟩ : ∃ y : Fin 100000 → ℝ, ∀ j, y j = if j = p then M else X r j := ⟨_, fun _ => rfl⟩
  have ey : ∀ j, val_main_v18 (F := Ideal) x0 x1 (ix2 r j) = (y j : EReal) := by
    intro j
    rw [masked_apply x0 x1 h, ← hp, hy, eM, hX]
    split <;> rfl
  obtain ⟨before, hbe⟩ : ∃ before : Fin 100000 → Fin 100000 → Bool, before = fun a b =>
      (FloatOps.cmpfTotal (F := Ideal) (φ := .f32) .gt (val_main_v18 (F := Ideal) x0 x1 (ix2 r a))
        (val_main_v18 (F := Ideal) x0 x1 (ix2 r b)) == 1#1) := ⟨_, rfl⟩
  have hb : ∀ k k', before k k' = decide (y k' < y k) := by
    intro k k'
    rw [hbe]
    show (FloatOps.cmpfTotal (F := Ideal) (φ := .f32) .gt (val_main_v18 (F := Ideal) x0 x1 (ix2 r k))
        (val_main_v18 (F := Ideal) x0 x1 (ix2 r k')) == 1#1) = _
    rw [ey, ey]
    show (BitVec.ofBool (decide ((y k' : EReal) < (y k : EReal))) == 1#1) = _
    by_cases hlt : y k' < y k
    · rw [decide_eq_true hlt, decide_eq_true (EReal.coe_lt_coe_iff.2 hlt)]; rfl
    · rw [decide_eq_false hlt, decide_eq_false (fun q => hlt (EReal.coe_lt_coe_iff.1 q))]; rfl
  obtain ⟨S, hc, hn, ht, hs⟩ := sorted_front (K := 999) (by decide) (X r) y p M
    (fun j => by have := hM r j; rw [eM, hX] at this; exact EReal.coe_lt_coe_iff.1 this) hy before hb
  refine ⟨S, hp ▸ ⟨hc, hn, ht⟩, ?_⟩
  rw [← hp]
  have ev : ∀ k : Fin 999, val_main_v24 (F := Ideal) x0 x1 (idx_main_v25 (ix1 r) k)
      = ((sqr (y (sortedFrom before ⟨k.val, k.isLt.trans (by decide)⟩)) : ℝ) : EReal) := by
    intro k
    have e1 : idx_main_v25 (ix1 r) k = ix2 r k := by
      funext a
      match a with
      | ⟨0, _⟩ => rfl
      | ⟨1, _⟩ => rfl
    have e2 : val_main_values (F := Ideal) x0 x1 (ix2 r k)
        = (y (sortedFrom before ⟨k.val, k.isLt.trans (by decide)⟩) : EReal) := by
      unfold val_main_values
      rw [hbe, ← ey]
      exact topK_apply _ _ _ r k (k.isLt.trans (by decide))
    rw [e1, val_main_v24_apply, val_main_v23_apply, val_main_v22_apply, val_main_cst_4_apply, e2]
    show (Ideal.ofBits .f32 0x3F800000#32 + (_ : EReal)) * (Ideal.ofBits .f32 0x3F800000#32 + (_ : EReal)) = _
    rw [Ideal.ofBits_one_f32, ← EReal.coe_one, ← EReal.coe_add, ← EReal.coe_mul]
  have e25 : val_main_v25 (F := Ideal) x0 x1 (ix1 r) = ((∑ s ∈ S, sqr (X r s) : ℝ) : EReal) := by
    rw [val_main_v25_apply, val_main_cst_5_apply]
    show Ideal.ofBits .f32 0x00000000#32 + (_ : EReal) = _
    rw [Ideal.ofBits_zero_f32, zero_add, ← hs sqr, ereal_sum]
    exact Finset.sum_congr rfl fun k _ => ev k
  rw [val_main_v30_apply, val_main_v21_apply, val_main_v20_apply, val_main_v19_apply, val_main_cst_3_apply, val_main_v29_apply,
    val_main_v28_apply, val_main_cst_7_apply, val_main_v27_apply, val_main_v26_apply, val_main_cst_6_apply, e25,
    pos_apply x0 x1 h, ← hp, hX]
  show (Ideal.ofBits .f32 0x3F800000#32 - (X r p : EReal)) * (Ideal.ofBits .f32 0x3F800000#32 - (X r p : EReal))
    + Ideal.ofBits .f32 0x3E4CCCCD#32 * Ideal.div (_ : EReal) (Ideal.ofBits .f32 0x4479C000#32) = _
  rw [Ideal.ofBits_one_f32, c999, cfifth, Ideal.div_coe (by norm_num), ← EReal.coe_one, ← EReal.coe_sub, ← EReal.coe_mul, ← EReal.coe_mul,
    ← EReal.coe_mul, ← EReal.coe_add]
  exact congrArg _ (row_real _ _)

/-- The reference's result. -/
theorem ref_apply (h : ∀ r : Fin 1024, (x1 (ix1 r)).toNat < 100000) (X : Fin 1024 → Fin 100000 → ℝ)
    (hX : ∀ r j, x0 (ix2 r j) = (X r j : EReal)) (hM : ∀ r j, Ideal.ofBits .f32 0xF149F2CA#32 < x0 (ix2 r j)) :
    ∃ S : Fin 1024 → Finset (Fin 100000), (∀ r, Tops (X r) ⟨(x1 (ix1 r)).toNat, h r⟩ (S r)) ∧
      ∀ i, val_main_v32 (F := Ideal) x0 x1 i
        = (((∑ r : Fin 1024, loss (X r) ⟨(x1 (ix1 r)).toNat, h r⟩ (S r)) / 1024 : ℝ) : EReal) := by
  choose S hS e using row_apply x0 x1 h X hX hM
  refine ⟨S, hS, fun i => ?_⟩
  have e31 : val_main_v31 (F := Ideal) x0 x1 i
      = ((∑ r : Fin 1024, loss (X r) ⟨(x1 (ix1 r)).toNat, h r⟩ (S r) : ℝ) : EReal) := by
    rw [val_main_v31_apply, val_main_cst_8_apply]
    show Ideal.ofBits .f32 0x00000000#32 + (_ : EReal) = _
    rw [Ideal.ofBits_zero_f32, zero_add, ereal_sum]
    refine Fintype.sum_equiv ⟨fun j => j 0, fun r => ix1 r, fun j => (eq_ix1 j).symm, fun r => rfl⟩ _ _ fun j => ?_
    exact (congrArg (val_main_v30 (F := Ideal) x0 x1) (eq_ix1 j)).trans (e (j 0))
  rw [val_main_v32_apply, val_main_cst_9_apply, e31]
  show Ideal.div (_ : EReal) (Ideal.ofBits .f32 0x44800000#32) = _
  rw [c1024, Ideal.div_coe (by norm_num), ← EReal.coe_mul, mul_one_div]

end Cert.Proof.Ref

end
-- ==== Proof.PreFacts.lean ====
/-
  What the precondition says of the arguments: every entry is a finite float above the value that replaces the target's, and
  every target is a column.
-/
module

public import proofs.«01_k».proof.Proof.RefVal
public import proofs.«01_k».proof.Pre_in_domain
public import Idealize.ShloMosaic.Lib.Routing.OpsOrder

@[expose] public section

set_option maxRecDepth 16384

noncomputable section

namespace Cert.Proof.Pre

open Cert.Proof Cert.Pre_in_domain Idealize.ShloMosaic Idealize.ShloMosaic.ValueIdx

instance facts : Cert.Pre_in_domain.Facts where
  bcast_S_S254 := by decide
  bcast_S1024x100000_S1024x100000x1_0_1 := by decide
  bcast_S254_S1x1x254_2 := by decide
  bcast_S1024x100000x1_S1024x100000x254_0_1_2 := by decide
  bcast_S1x1x254_S1024x100000x254_0_1_2 := by decide
  bcast_S_S1024x100000x254 := by decide
  reducesTo_S1024x100000x254_S1024x100000_d2 := by decide
  h_S_ := by decide
  bcast_S_S1024x100000 := by decide
  bcast_S_S1024 := by decide

theorem scale_toNat : ∀ e : Fin 254,
    (IntOp.shli .host (IntOp.addi (BitVec.ofNat 32 e.val) 1#32) 23#32).toNat = (e.val + 1) * 8388608 := by
  decide +kernel

/-- The scale of a place: a power of two. -/
theorem scale_val (e : Fin 254) :
    Ideal.ofBits .f32 (IntOp.shli .host (IntOp.addi (BitVec.ofNat 32 e.val) 1#32) 23#32)
      = ((8388608 * 2 ^ e.val * ulp : ℝ) : EReal) := by
  have he := e.isLt
  rw [ofBits_nonneg _ (by rw [scale_toNat]; omega), scale_toNat]
  congr 2
  unfold mag
  rw [show (e.val + 1) * 8388608 / 8388608 = e.val + 1 by omega, show (e.val + 1) * 8388608 % 8388608 = 0 by omega,
    if_neg (Nat.succ_ne_zero _)]
  push_cast
  simp

theorem c22 : Ideal.ofBits .f32 0x4A800000#32 = ((4194304 : ℝ) : EReal) := by
  simp [Ideal.ofBits, Ideal.ieee]
  rw [← EReal.coe_mul, EReal.coe_eq_coe_iff]; norm_num

theorem c24 : Ideal.ofBits .f32 0x4B800000#32 = ((16777216 : ℝ) : EReal) := by
  simp [Ideal.ofBits, Ideal.ieee]
  rw [← EReal.coe_mul, EReal.coe_eq_coe_iff]; norm_num

theorem unscale (a z : ℝ) (e : ℕ) (he : e ≤ 253) (h : a * (8388608 * 2 ^ e * ulp) * 4194304 = z) :
    a = z * 2 ^ (253 - e) * ulp := by
  have hP : (0 : ℝ) < 2 ^ e := by positivity
  have hPQ : (2 : ℝ) ^ (253 - e) * 2 ^ e = 2 ^ 253 := by rw [← pow_add, Nat.sub_add_cancel he]
  have hu : ulp = 1 / 2 ^ 149 := by unfold ulp; norm_num
  obtain ⟨P, eP⟩ : ∃ P : ℝ, P = 2 ^ e := ⟨_, rfl⟩
  obtain ⟨Q, eQ⟩ : ∃ Q : ℝ, Q = 2 ^ (253 - e) := ⟨_, rfl⟩
  rw [← eP] at hP hPQ h
  rw [← eQ] at hPQ ⊢
  rw [hu] at h ⊢
  apply mul_right_cancel₀ hP.ne'
  linear_combination (2 ^ 149 / 2 ^ 45) * h - z * (1 / 2 ^ 149) * hPQ

/-- A number that one of the scales makes whole and small is a finite float. -/
theorem whole_float (x : EReal) (e : ℕ) (he : e ≤ 253)
    (h1 : Ideal.liftRound Int.floor (x * ((8388608 * 2 ^ e * ulp : ℝ) : EReal) * ((4194304 : ℝ) : EReal))
      = x * ((8388608 * 2 ^ e * ulp : ℝ) : EReal) * ((4194304 : ℝ) : EReal))
    (h2 : max (x * ((8388608 * 2 ^ e * ulp : ℝ) : EReal) * ((4194304 : ℝ) : EReal))
      (-(x * ((8388608 * 2 ^ e * ulp : ℝ) : EReal) * ((4194304 : ℝ) : EReal))) < ((16777216 : ℝ) : EReal)) :
    ∃ b : BitVec 32, b.toNat < 4286578688 ∧ key b = x := by
  have hs : (0 : ℝ) < 8388608 * 2 ^ e * ulp := by have := ulp_pos; positivity
  induction x with
  | bot =>
    rw [EReal.bot_mul_coe_of_pos hs, EReal.bot_mul_coe_of_pos (by norm_num)] at h2
    exact absurd h2 (by simp)
  | top =>
    rw [EReal.top_mul_coe_of_pos hs, EReal.top_mul_coe_of_pos (by norm_num)] at h2
    exact absurd h2 (by simp)
  | coe a =>
    rw [← EReal.coe_mul, ← EReal.coe_mul] at h1 h2
    obtain ⟨v, hv⟩ : ∃ v, v = a * (8388608 * 2 ^ e * ulp) * 4194304 := ⟨_, rfl⟩
    rw [← hv] at h1 h2
    have h1 : ((⌊v⌋ : ℤ) : ℝ) = v := EReal.coe_eq_coe_iff.1 h1
    have ha := unscale a v e he hv.symm
    have h3 := EReal.coe_lt_coe_iff.1 (lt_of_le_of_lt (le_max_left _ _) h2)
    have h4 : -v < 16777216 := by
      have := lt_of_le_of_lt (le_max_right _ _) h2
      rw [← EReal.coe_neg] at this
      exact EReal.coe_lt_coe_iff.1 this
    obtain ⟨z, hz⟩ : ∃ z, z = ⌊v⌋ := ⟨_, rfl⟩
    rw [← hz] at h1
    rw [← h1] at ha h3 h4
    have h3 : z < 16777216 := by exact_mod_cast h3
    have h4 : -z < 16777216 := by exact_mod_cast h4
    obtain ⟨b, hb, hk⟩ := key_exists z.natAbs (253 - e) (decide (z < 0)) (by omega) (by omega)
    refine ⟨b, hb, ?_⟩
    rw [hk, ha]
    congr 1
    by_cases hneg : z < 0
    · rw [if_pos (decide_eq_true hneg), Nat.cast_natAbs, abs_of_neg hneg]; push_cast; ring
    · rw [if_neg (by simpa using hneg), Nat.cast_natAbs, abs_of_nonneg (not_lt.1 hneg)]; ring

theorem and_one (a b : BitVec 1) (h : IntOp.andi a b = 1#1) : a = 1#1 ∧ b = 1#1 := by
  rcases BitVec.eq_zero_or_eq_one a with e | e <;> rcases BitVec.eq_zero_or_eq_one b with g | g
  all_goals rw [e, g] at h ⊢
  all_goals first | exact ⟨rfl, rfl⟩ | exact absurd h (by decide)

theorem ofBool_one (p : Prop) [Decidable p] (h : BitVec.ofBool (decide p) = 1#1) : p := by
  by_contra hn
  rw [decide_eq_false hn] at h
  exact absurd h (by decide)

variable (x0 : FVec Ideal S1024x100000 .f32) (x1 : IVec S1024 32)

theorem float_of (r : Fin 1024) (j : Fin 100000) (h : (fn (F := Ideal) x0 x1).1 (ix2 r j) = 1#1) :
    ∃ b : BitVec 32, b.toNat < 4286578688 ∧ key b = x0 (ix2 r j) := by
  classical
  unfold fn fn_part1 at h
  simp only [] at h
  rw [Host.reduce_eq_fold] at h
  obtain ⟨i, hi, e⟩ := (Routing.fold_ori _ _).1 h
  have hd := (Finset.mem_filter.1 hi).2
  obtain ⟨a, b, k, rfl⟩ : ∃ (a : Fin 1024) (b : Fin 100000) (k : Fin 254), i = ix3 a b k := ⟨i 0, i 1, i 2, eq_ix3 i⟩
  have ha : a = r := congrFun hd 0
  have hb : b = j := congrFun hd 1
  subst ha hb
  obtain ⟨e1, e2⟩ := and_one _ _ e
  have b8 : ∀ (h) (h') , broadcastInDim S1024x100000x254 ![0, 1, 2] h (broadcastInDim S1024x100000x1 ![0, 1] h' x0) (ix3 a b k) = x0 (ix2 a b) := by
    intro h h'
    refine (broadcastInDim_apply _ h _ _ (ix3 a b 0) (fun q => ?_)).trans (broadcastInDim_apply _ h' _ _ (ix2 a b) (fun q => ?_))
    · match q with
      | ⟨0, _⟩ => rfl
      | ⟨1, _⟩ => rfl
      | ⟨2, _⟩ => rfl
    · match q with
      | ⟨0, _⟩ => rfl
      | ⟨1, _⟩ => rfl
  have b9 : ∀ (w : FVec Ideal S254 .f32) (h) (h'), broadcastInDim S1024x100000x254 ![0, 1, 2] h
      (broadcastInDim S1x1x254 ![2] h' w) (ix3 a b k) = w (ix1 k) := by
    intro w h h'
    refine (broadcastInDim_apply _ h _ _ (ix3 0 0 k) (fun q => ?_)).trans (broadcastInDim_apply _ h' _ _ (ix1 k) (fun q => ?_))
    · match q with
      | ⟨0, _⟩ => rfl
      | ⟨1, _⟩ => rfl
      | ⟨2, _⟩ => rfl
    · match q with
      | ⟨0, _⟩ => rfl
  have ey : ∀ (h) (h') (h2) (h3) (h4) (h5) (h6), mulf (mulf (broadcastInDim S1024x100000x254 ![0, 1, 2] h (broadcastInDim S1024x100000x1 ![0, 1] h' x0))
      (broadcastInDim S1024x100000x254 ![0, 1, 2] h2 (broadcastInDim S1x1x254 ![2] h3 (bitcastToFloat .f32 (Host.shli (addi (iotaInDim S254 32 0) (broadcastInDim S254 ![] h4 (constantI S_ 32 1#32)))
        (broadcastInDim S254 ![] h5 (constantI S_ 32 23#32)))))))
      (broadcastInDim S1024x100000x254 ![] h6 (constant S_ .f32 0x4A800000#32)) (ix3 a b k)
      = x0 (ix2 a b) * ((8388608 * 2 ^ k.val * ulp : ℝ) : EReal) * ((4194304 : ℝ) : EReal) := by
    intro h h' h2 h3 h4 h5 h6
    refine congrArg₂ (fun u v : EReal => u * v) (congrArg₂ (fun u v : EReal => u * v) (b8 h h') ((b9 _ h2 h3).trans (scale_val k))) ?_
    exact c22
  have hk := k.isLt
  refine whole_float (x0 (ix2 a b)) k.val (by omega) ?_ ?_
  · have q := ofBool_one _ e1
    refine (congrArg (Ideal.liftRound Int.floor) (ey _ _ _ _ _ _ _)).symm.trans (Eq.trans q (ey _ _ _ _ _ _ _))
  · have q := ofBool_one _ e2
    rw [← c24]
    refine lt_of_eq_of_lt ?_ q
    exact congrArg (fun u : EReal => max u (-u)) (ey _ _ _ _ _ _ _).symm

theorem above_of (r : Fin 1024) (j : Fin 100000) (h : (fn (F := Ideal) x0 x1).2.1 (ix2 r j) = 1#1) :
    Ideal.ofBits .f32 0xF149F2CA#32 < x0 (ix2 r j) :=
  ofBool_one _ h

theorem target_of (r : Fin 1024) (h : (fn (F := Ideal) x0 x1).2.2 (ix1 r) = 1#1) : (x1 (ix1 r)).toNat < 100000 := by
  obtain ⟨e1, e2⟩ := and_one _ _ h
  obtain ⟨t, et⟩ : ∃ t, t = x1 (ix1 r) := ⟨_, rfl⟩
  have e1 : BitVec.ofBool ((0#32).sle (x1 (ix1 r))) = 1#1 := e1
  have e2 : BitVec.ofBool ((x1 (ix1 r)).slt 100000#32) = 1#1 := e2
  rw [← et] at e1 e2 ⊢
  have f1 : (0#32).sle t = true := by
    cases g : (0#32).sle t
    · rw [g] at e1; exact absurd e1 (by decide)
    · rfl
  have f2 : t.slt 100000#32 = true := by
    cases g : t.slt 100000#32
    · rw [g] at e2; exact absurd e2 (by decide)
    · rfl
  rw [BitVec.sle_iff_toInt_le] at f1
  rw [BitVec.slt_iff_toInt_lt] at f2
  have g1 : (0#32).toInt = 0 := rfl
  have g2 : (100000#32).toInt = 100000 := rfl
  rw [g1] at f1
  rw [g2] at f2
  have hlt := t.isLt
  rw [BitVec.toInt_eq_toNat_cond] at f1 f2
  split at f1 <;> omega

end Cert.Proof.Pre

end
-- ==== Proof.Grid.lean ====
/-
  The kernel's result, read: what each grid point's blocks are in the arguments, the output after the last point as a sum over
  the points, and the result array as that output.
-/
module

public import proofs.«01_k».proof.Proof.Run
public import proofs.«01_k».proof.Proof.Block
public import Idealize.ShloMosaic.Lib.Pipeline.Value
public import Idealize.ShloMosaic.Lib.Pipeline.ValueKit

@[expose] public section

set_option maxRecDepth 16384

noncomputable section

namespace Cert.Proof

open Cert.KernelIdeal Cert.KernelIdeal.Gen

open Idealize.ShloMosaic Idealize.ShloMosaic.TcCoe Idealize.SL.Sem
open Idealize.ShloMosaic.Pipeline (Dat Window)

section
variable {F : FTy → Type} [FloatOps F] [Named F]
variable (m : (ℓ : Loc nD τ sig) → Buf (Elt F) ℓ) (c : Dev nD)

/-- A block row's place in the array. -/
def rowAt (t : Fin grid0.N) (r : Fin 32) : Fin 1024 :=
  ⟨t.val * 32 + r.val, by have := lt_of_lt_of_eq t.isLt N_0; omega⟩

theorem V1_arg0 : V1 m c (Proc.devRef .tc main_arg0) = m ((c.tc : Thread nD τ).loc main_arg0) := by
  unfold V1
  after_results

theorem index0 : ∀ t : Fin grid0.N, win0_0.index t (0 : Fin 2) = t.val ∧ win0_0.index t (1 : Fin 2) = 0 := by decide
theorem index1 : ∀ t : Fin grid0.N, win0_1.index t (0 : Fin 2) = t.val ∧ win0_1.index t (1 : Fin 2) = 0 := by decide

theorem inpB_apply (t : Fin grid0.N) (r : Fin 32) (j : Fin 100000) :
    inpB m c t (ValueIdx.ix2 r j) = m ((c.tc : Thread nD τ).loc main_arg0) (ValueIdx.ix2 (rowAt t r) j) := by
  unfold inpB
  rw [V1_arg0]
  refine congrArg (m ((c.tc : Thread nD τ).loc main_arg0)) ?_
  obtain ⟨e0, e1⟩ := index1 t
  funext a
  refine Fin.ext ?_
  fin_cases a
  · blk_simp [e0, e1]
    rfl
  · blk_simp [e0, e1]

theorem V1_v0 : V1 m c (Proc.devRef .tc main_v0)
    = shapeCast (s := S1024) S1024x1 (m ((c.tc : Thread nD τ).loc main_arg1)) shapeCasts_S1024_S1024x1 := by
  unfold V1
  after_results
  rfl

theorem tgtB_apply (t : Fin grid0.N) (r : Fin 32) :
    tgtB m c t (ValueIdx.ix2 r 0) = m ((c.tc : Thread nD τ).loc main_arg1) (ValueIdx.ix1 (rowAt t r)) := by
  unfold tgtB
  rw [V1_v0]
  have e : (win0_0.blk t).view.emb (ValueIdx.ix2 r 0) = ValueIdx.ix2 (rowAt t r) (0 : Fin 1) := by
    obtain ⟨e0, e1⟩ := index0 t
    funext a
    refine Fin.ext ?_
    fin_cases a
    · blk_simp [e0, e1]
      rfl
    · blk_simp [e0, e1]
  show shapeCast (s := S1024) S1024x1 (m ((c.tc : Thread nD τ).loc main_arg1)) shapeCasts_S1024_S1024x1 ((win0_0.blk t).view.emb (ValueIdx.ix2 r 0)) = _
  rw [e]
  refine shapeCast_apply _ _ _ _ ?_
  rw [Shape.rowMajor_val_one, Shape.rowMajor_val_two]
  show (rowAt t r).val = (rowAt t r).val * 1 + 0
  omega

theorem firstPt_succ : ∀ t : Fin grid0.N, t.val ≠ 0 → ¬ firstPt (grid0.coords t) := by decide

/-- The last point. -/
def lastPt : Fin grid0.N := ⟨31, by rw [N_0]; decide⟩

theorem idx_S1x1 (i j : S1x1.Idx) : i = j := by
  have h : ∀ k : S1x1.Idx, k = ValueIdx.ix2 (0 : Fin 1) (0 : Fin 1) := fun k =>
    (ValueIdx.eq_ix2 k).trans (congrArg₂ ValueIdx.ix2 (Subsingleton.elim (α := Fin 1) _ _) (Subsingleton.elim (α := Fin 1) _ _))
  rw [h i, h j]

theorem wholeAt : win0_2.WholeAt lastPt := by decide +kernel

/-- The region's result: the output after the last point. -/
theorem V2_v1 (i : S1x1.Idx) : V2 m c (Proc.devRef .tc main_v1) i = outAt m c 31 lastPt.isLt (ValueIdx.ix2 0 0) := by
  have e : (dats m 0 c).arrAt 2 (cfg0 (F := F)).N = outAt m c 31 lastPt.isLt := by
    refine (dats m 0 c).arrAt_eq_of_after_last 2 lastPt wholeAt _ fun j => ?_
    rw [after_2]
    exact congrArg (outAt m c 31 lastPt.isLt) (idx_S1x1 _ _)
  unfold V2
  erw [Pipeline.afterRegion_arr (dats m 0 c) _ (launch0 (F := F)).win.arr_inj 2]
  rw [e]
  exact congrArg (outAt m c 31 lastPt.isLt) (idx_S1x1 _ _)

/-- The result array: the output after the last point. -/
theorem V3_v2 (i) : V3 m c (Proc.devRef .tc main_v2) i = outAt m c 31 lastPt.isLt (ValueIdx.ix2 0 0) := by
  unfold V3
  generalize hV : V2 m c = V
  have e : StableHlo.after hostOps1 V (Proc.devRef .tc main_v2)
      = shapeCast (s := S1x1) S_ (V (Proc.devRef .tc main_v1)) shapeCasts_S1x1_S_ := by
    after_results
    rfl
  rw [e, ← hV]
  exact V2_v1 m c _

end

/-- The output's sum over the points so far. -/
theorem outAt_apply (m : (ℓ : Loc nD τ sig) → Buf (Elt Ideal) ℓ) (c : Dev nD) : ∀ (n : ℕ) (h : n < grid0.N),
    outAt m c n h (ValueIdx.ix2 0 0) = ∑ t : Fin (n + 1), (∑ r : Fin 32, perRow (inpB m c ⟨t.val, by omega⟩) (tgtB m c ⟨t.val, by omega⟩) r)
      * ((1 / 1024 : ℝ) : EReal)
  | 0, h => by
    have h0 : (k0_pay276 (F := Ideal)) (ValueIdx.ix2 0 0) = 0 := by
      unfold k0_pay276
      exact Ideal.ofBits_zero_f32
    show stepOut _ _ _ _ _ = _
    unfold stepOut
    rw [blockOut_apply, if_pos (firstPt_zero ⟨0, h⟩ rfl), h0, zero_add, Fin.sum_univ_one]
    rfl
  | n + 1, h => by
    show stepOut _ _ _ _ _ = _
    unfold stepOut
    rw [blockOut_apply, if_neg (firstPt_succ ⟨n + 1, h⟩ (Nat.succ_ne_zero n)), outAt_apply m c n, Fin.sum_univ_castSucc (n := n + 1)]
    rfl

end Cert.Proof

end
-- ==== Proof.Value.lean ====
/-
  The kernel's result and the reference's are one extended real: over inputs that are finite floats above the mask and targets
  that name a column, each row's loss in the kernel is the reference's, and the sums over blocks are the mean over the rows.
-/
module

public import proofs.«01_k».proof.Defs
public import proofs.«01_k».proof.Proof.Grid
public import proofs.«01_k».proof.Proof.RefVal
public import proofs.«01_k».proof.Proof.PreFacts
public import proofs.«01_k».proof.Proof.Gen.ReferenceIdeal.Run
public import proofs.«01_k».proof.Proof.Gen.ReferenceIdeal.Read

@[expose] public section

set_option maxRecDepth 16384

noncomputable section

namespace Cert.Proof

open Idealize.ShloMosaic Idealize.ShloMosaic.TcCoe Idealize.SL.Sem
open Cert.KernelIdeal (grid0 nD τ sig main_arg0 main_arg1 main_v2)

/-- The sum over the blocks and their rows is the sum over the rows. -/
theorem sum_rows (L : Fin 1024 → ℝ) (q : Fin 32 → Fin 32 → Fin 1024) (hq : ∀ t r, (q t r).val = t.val * 32 + r.val) :
    ∑ t : Fin 32, ∑ r : Fin 32, L (q t r) = ∑ i : Fin 1024, L i := by
  rw [← Fintype.sum_prod_type' (fun t r => L (q t r))]
  refine Fintype.sum_equiv (finProdFinEquiv (m := 32) (n := 32)) _ _ fun x => congrArg L (Fin.ext ?_)
  rw [hq, finProdFinEquiv_apply_val]
  omega

/-- The same over the extended reals, each block's sum scaled by the number of rows. -/
theorem mean_rows (L : Fin 1024 → ℝ) (q : Fin 32 → Fin 32 → Fin 1024) (hq : ∀ t r, (q t r).val = t.val * 32 + r.val) :
    ∑ t : Fin 32, (∑ r : Fin 32, (L (q t r) : EReal)) * ((1 / 1024 : ℝ) : EReal)
      = (((∑ i : Fin 1024, L i) / 1024 : ℝ) : EReal) := by
  have h : ∀ t : Fin 32, (∑ r : Fin 32, (L (q t r) : EReal)) * ((1 / 1024 : ℝ) : EReal)
      = (((∑ r : Fin 32, L (q t r)) * (1 / 1024) : ℝ) : EReal) := fun t => by
    rw [← ereal_sum, ← EReal.coe_mul]
  rw [Finset.sum_congr rfl fun t _ => h t, ← ereal_sum, ← Finset.sum_mul, sum_rows L q hq]
  congr 1
  ring

section
variable (m : (ℓ : Loc nD τ sig) → Buf (Elt Ideal) ℓ) (c : Dev nD)

/-- The kernel's first argument. -/
abbrev arg0 : Vec Ideal Cert.KernelIdeal.S1024x100000 .f32 := m ((c.tc : Thread nD τ).loc main_arg0)
/-- The kernel's second argument. -/
abbrev arg1 : Vec Ideal Cert.KernelIdeal.S1024 .i32 := m ((c.tc : Thread nD τ).loc main_arg1)

theorem value (hf : ∀ r j, ∃ b : BitVec 32, b.toNat < 4286578688 ∧ key b = arg0 m c (ValueIdx.ix2 r j))
    (hM : ∀ r j, Ideal.ofBits .f32 0xF149F2CA#32 < arg0 m c (ValueIdx.ix2 r j))
    (ht : ∀ r : Fin 1024, (arg1 m c (ValueIdx.ix1 r)).toNat < 100000) (i i') :
    V3 m c (Proc.devRef .tc main_v2) i
      = Cert.ReferenceIdeal.Read.val_main_v32 (F := Ideal) (arg0 m c) (arg1 m c) i' := by
  have hbot : ∀ r j, ⊥ < arg0 m c (ValueIdx.ix2 r j) := fun r j => lt_of_le_of_lt bot_le (hM r j)
  have htop : ∀ r j, arg0 m c (ValueIdx.ix2 r j) ≠ ⊤ := fun r j => by
    obtain ⟨b, hb, e⟩ := hf r j
    rw [← e]
    exact key_ne_top b hb
  have hX : ∀ r j, arg0 m c (ValueIdx.ix2 r j) = ((arg0 m c (ValueIdx.ix2 r j)).toReal : EReal) := fun r j =>
    (EReal.coe_toReal (htop r j) (hbot r j).ne').symm
  obtain ⟨X, hX⟩ : ∃ X : Fin 1024 → Fin 100000 → ℝ, ∀ r j, arg0 m c (ValueIdx.ix2 r j) = (X r j : EReal) := ⟨_, hX⟩
  obtain ⟨S, hS, hv⟩ := Ref.ref_apply (arg0 m c) (arg1 m c) ht X hX hM
  refine (V3_v2 m c i).trans ((outAt_apply m c 31 lastPt.isLt).trans (Eq.trans ?_ (hv i').symm))
  have hN : ∀ t : Fin 32, t.val < grid0.N := fun t => lt_of_lt_of_eq t.isLt Cert.KernelIdeal.Gen.N_0.symm
  refine Eq.trans (Finset.sum_congr rfl fun t _ => congrArg (· * ((1 / 1024 : ℝ) : EReal)) (Finset.sum_congr rfl fun r _ =>
    perRow_eq (inpB m c ⟨t.val, hN t⟩) (tgtB m c ⟨t.val, hN t⟩) r ?_ (X (rowAt ⟨t.val, hN t⟩ r)) ?_
      ⟨(arg1 m c (ValueIdx.ix1 (rowAt ⟨t.val, hN t⟩ r))).toNat, ht _⟩ ?_ (S (rowAt ⟨t.val, hN t⟩ r)) (hS _)))
    (mean_rows (fun i => loss (X i) ⟨(arg1 m c (ValueIdx.ix1 i)).toNat, ht i⟩ (S i))
      (fun t r => rowAt ⟨t.val, hN t⟩ r) (fun t r => rfl))
  · intro r j hj
    have e : ent (inpB m c ⟨t.val, hN t⟩) r j = arg0 m c (ValueIdx.ix2 (rowAt ⟨t.val, hN t⟩ r) ⟨j, hj⟩) := by
      unfold ent
      rw [dif_pos hj]
      exact inpB_apply m c _ _ _
    rw [e]
    exact ⟨hbot _ _, hf _ _⟩
  · intro j
    unfold ent
    rw [dif_pos j.isLt]
    exact (inpB_apply m c _ _ _).trans (hX _ _)
  · exact congrArg BitVec.toNat (tgtB_apply m c _ _)

end

theorem algebraic : Cert.algebraic_KernelIdeal_ReferenceIdeal_pre_in_domain := by
  intro m g m' g' hpre hargs
  have hf : ∀ c r j, ∃ b : BitVec 32, b.toNat < 4286578688 ∧ key b = arg0 m c (ValueIdx.ix2 r j) := fun c r j =>
    Pre.float_of (arg0 m c) (arg1 m c) r j (congrFun (hpre c).1 _)
  have hM : ∀ c r j, Ideal.ofBits .f32 0xF149F2CA#32 < arg0 m c (ValueIdx.ix2 r j) := fun c r j =>
    Pre.above_of (arg0 m c) (arg1 m c) r j (congrFun (hpre c).2.1 _)
  have ht : ∀ c r, (arg1 m c (ValueIdx.ix1 r)).toNat < 100000 := fun c r =>
    Pre.target_of (arg0 m c) (arg1 m c) r (congrFun (hpre c).2.2 _)
  refine ⟨fun c => V3 m c (Proc.devRef .tc main_v2), ?_, ?_⟩
  · exact (θ_run Cert.KernelIdeal.defs _ _).mono (fun r h c => ⟨h.1 c main_v2 rfl,
      (h.1 c main_arg0 rfl).trans (V3_arg0 m c), (h.1 c main_arg1 rfl).trans (V3_arg1 m c)⟩) (run_main (F := Ideal) m g)
  · refine (θ_run Cert.ReferenceIdeal.defs _ _).mono (fun r h c => ⟨?_, (h c).2⟩) (Cert.ReferenceIdeal.Value.run (F := Ideal) m' g')
    refine (h c).1.trans ?_
    rw [Cert.ReferenceIdeal.Read.val_main_v32_eq, (hargs c).1, (hargs c).2]
    funext i
    exact (value m c (hf c) (hM c) (ht c) i i).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.PreFacts
public import proofs.«01_k».proof.Proof.Value
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Proof.Pre.facts,
  frame_k, frame_ki, fun m g _ => frame_ki m g trivial, frame_ri, fun m g _ => frame_ri m g trivial, preserves, algebraic⟩

end Cert.Proof

end
